-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![768, 1536]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![384, 768]⟩ ⟨2, ![1536, 768]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S768x768 : Shape := ⟨2, ![768, 768]⟩
abbrev S4x192x768 : Shape := ⟨3, ![4, 192, 768]⟩
abbrev S6 : Shape := ⟨1, ![6]⟩
abbrev S_ : Shape := ⟨0, ![]⟩
abbrev S192x384 : Shape := ⟨2, ![192, 384]⟩
abbrev S192x768 : Shape := ⟨2, ![192, 768]⟩
abbrev S1 : Shape := ⟨1, ![1]⟩
abbrev S1x192x768 : Shape := ⟨3, ![1, 192, 768]⟩

abbrev nBuf : Space → Nat
  | .hbm => 3
  | .vmem => 6
  | .smem => 0
  | _ => 0

abbrev bufTy : (tb : Table) → Fin (tcTables nBuf tb) → BufTy
  | .hbm, ⟨0, _⟩ => ⟨S768x384, .f32⟩
  | .hbm, ⟨1, _⟩ => ⟨S384x768, .f32⟩
  | .hbm, ⟨2, _⟩ => ⟨S768x768, .f32⟩
  | .local _ .vmem, ⟨0, _⟩ => ⟨S768x384, .f32⟩
  | .local _ .vmem, ⟨1, _⟩ => ⟨S384x768, .f32⟩
  | .local _ .vmem, ⟨2, _⟩ => ⟨S768x768, .f32⟩
  | .local _ .vmem, ⟨3, _⟩ => ⟨S768x768, .bf16⟩
  | .local _ .vmem, ⟨4, _⟩ => ⟨S4x192x768, .bf16⟩
  | .local _ .vmem, ⟨5, _⟩ => ⟨S384x768, .bf16⟩
  | _, _ => ⟨S768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_8 : BitVec 32 := 1#32
  let v14 : BitVec 32 := Scalar.muli v3 c1_i32_8
  let v15 : BitVec 32 := Scalar.addi c0_i32_9 v14
  v15.toNat
def k0_dev2 (d0 : Dev nD) : Nat :=
  let c0_i32_12 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_11 : BitVec 32 := 1#32
  let v16 : BitVec 32 := Scalar.muli v4 c1_i32_11
  let v17 : BitVec 32 := Scalar.addi c0_i32_12 v16
  v17.toNat
def k0_off1 (d0 : Dev nD) : Fin 2 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c0_i32_2 : BitVec 32 := 0#32
  let c1_i32_3 : BitVec 32 := 1#32
  let v8 : BitVec 32 := Scalar.select v7 c0_i32_2 c1_i32_3
  let v9 : BitVec 32 := Scalar.subi c1_i32_4 v8
  let c192_i32 : BitVec 32 := 192#32
  let v24 : BitVec 32 := Scalar.muli v9 c192_i32
  let v25 : Index := Scalar.indexCast v24
  let c0_17 : Index := 0#32
  ![v25.toNat, 0]
def k0_off2 (d0 : Dev nD) : Fin 2 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c0_i32_2 : BitVec 32 := 0#32
  let c1_i32_3 : BitVec 32 := 1#32
  let v8 : BitVec 32 := Scalar.select v7 c0_i32_2 c1_i32_3
  let v9 : BitVec 32 := Scalar.subi c1_i32_4 v8
  let c192_i32_20 : BitVec 32 := 192#32
  let v32 : BitVec 32 := Scalar.muli v9 c192_i32_20
  let v33 : Index := Scalar.indexCast v32
  let c0_21 : Index := 0#32
  ![v33.toNat, 0]
def k0_off3 (d0 : Dev nD) : Fin 2 → Nat :=
  let c5_i32 : BitVec 32 := 5#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v10 : BitVec 1 := Scalar.cmpi .sle v2 c1_i32_5
  let c2_i32 : BitVec 32 := 2#32
  let c3_i32_6 : BitVec 32 := 3#32
  let v11 : BitVec 32 := Scalar.select v10 c2_i32 c3_i32_6
  let v12 : BitVec 32 := Scalar.subi c5_i32 v11
  let c192_i32_22 : BitVec 32 := 192#32
  let v37 : BitVec 32 := Scalar.muli v12 c192_i32_22
  let v38 : Index := Scalar.indexCast v37
  let c0_23 : Index := 0#32
  ![v38.toNat, 0]
def k0_off4 (d0 : Dev nD) : Fin 2 → Nat :=
  let c5_i32 : BitVec 32 := 5#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v10 : BitVec 1 := Scalar.cmpi .sle v2 c1_i32_5
  let c2_i32 : BitVec 32 := 2#32
  let c3_i32_6 : BitVec 32 := 3#32
  let v11 : BitVec 32 := Scalar.select v10 c2_i32 c3_i32_6
  let v12 : BitVec 32 := Scalar.subi c5_i32 v11
  let c192_i32_27 : BitVec 32 := 192#32
  let v45 : BitVec 32 := Scalar.muli v12 c192_i32_27
  let v46 : Index := Scalar.indexCast v45
  let c0_28 : Index := 0#32
  ![v46.toNat, 0]
def k0_off5 (d0 : Dev nD) : Fin 2 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c0_i32_2 : BitVec 32 := 0#32
  let c1_i32_3 : BitVec 32 := 1#32
  let v8 : BitVec 32 := Scalar.select v7 c0_i32_2 c1_i32_3
  let v9 : BitVec 32 := Scalar.subi c1_i32_4 v8
  let c192_i32_29 : BitVec 32 := 192#32
  let v50 : BitVec 32 := Scalar.muli v9 c192_i32_29
  let c0_i32_38 : BitVec 32 := 0#32
  ![v50.toNat, 0]
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_34 : BitVec 32 := 1#32
  let v52 : BitVec 32 := Scalar.muli v3 c1_i32_34
  let v53 : BitVec 32 := Scalar.addi c0_i32_35 v52
  v53.toNat
def k0_off6 (d0 : Dev nD) : Fin 2 → Nat :=
  let c5_i32 : BitVec 32 := 5#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v10 : BitVec 1 := Scalar.cmpi .sle v2 c1_i32_5
  let c2_i32 : BitVec 32 := 2#32
  let c3_i32_6 : BitVec 32 := 3#32
  let v11 : BitVec 32 := Scalar.select v10 c2_i32 c3_i32_6
  let v12 : BitVec 32 := Scalar.subi c5_i32 v11
  let c192_i32_30 : BitVec 32 := 192#32
  let v51 : BitVec 32 := Scalar.muli v12 c192_i32_30
  let c0_i32_46 : BitVec 32 := 0#32
  ![v51.toNat, 0]
def k0_dev4 (d0 : Dev nD) : Nat :=
  let c0_i32_43 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_42 : BitVec 32 := 1#32
  let v61 : BitVec 32 := Scalar.muli v4 c1_i32_42
  let v62 : BitVec 32 := Scalar.addi c0_i32_43 v61
  v62.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c0_i32_2 : BitVec 32 := 0#32
  let c1_i32_3 : BitVec 32 := 1#32
  let v8 : BitVec 32 := Scalar.select v7 c0_i32_2 c1_i32_3
  let c192_i32_47 : BitVec 32 := 192#32
  let v70 : BitVec 32 := Scalar.muli v8 c192_i32_47
  let v71 : Index := Scalar.indexCast v70
  let c0_48 : Index := 0#32
  ![v71.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c0_i32_2 : BitVec 32 := 0#32
  let c1_i32_3 : BitVec 32 := 1#32
  let v8 : BitVec 32 := Scalar.select v7 c0_i32_2 c1_i32_3
  let c192_i32_52 : BitVec 32 := 192#32
  let v78 : BitVec 32 := Scalar.muli v8 c192_i32_52
  let v79 : Index := Scalar.indexCast v78
  let c0_53 : Index := 0#32
  ![v79.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v10 : BitVec 1 := Scalar.cmpi .sle v2 c1_i32_5
  let c2_i32 : BitVec 32 := 2#32
  let c3_i32_6 : BitVec 32 := 3#32
  let v11 : BitVec 32 := Scalar.select v10 c2_i32 c3_i32_6
  let c192_i32_54 : BitVec 32 := 192#32
  let v83 : BitVec 32 := Scalar.muli v11 c192_i32_54
  let v84 : Index := Scalar.indexCast v83
  let c0_55 : Index := 0#32
  ![v84.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v10 : BitVec 1 := Scalar.cmpi .sle v2 c1_i32_5
  let c2_i32 : BitVec 32 := 2#32
  let c3_i32_6 : BitVec 32 := 3#32
  let v11 : BitVec 32 := Scalar.select v10 c2_i32 c3_i32_6
  let c192_i32_59 : BitVec 32 := 192#32
  let v91 : BitVec 32 := Scalar.muli v11 c192_i32_59
  let v92 : Index := Scalar.indexCast v91
  let c0_60 : Index := 0#32
  ![v92.toNat, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c0_i32_2 : BitVec 32 := 0#32
  let c1_i32_3 : BitVec 32 := 1#32
  let v8 : BitVec 32 := Scalar.select v7 c0_i32_2 c1_i32_3
  let c192_i32_102 : BitVec 32 := 192#32
  let v140 : BitVec 32 := Scalar.muli v8 c192_i32_102
  let c0_i32_111 : BitVec 32 := 0#32
  ![v140.toNat, 0]
def k0_dev5 (d0 : Dev nD) : Nat :=
  let c0_i32_108 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_107 : BitVec 32 := 1#32
  let v142 : BitVec 32 := Scalar.muli v4 c1_i32_107
  let v143 : BitVec 32 := Scalar.addi c0_i32_108 v142
  v143.toNat
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v10 : BitVec 1 := Scalar.cmpi .sle v2 c1_i32_5
  let c2_i32 : BitVec 32 := 2#32
  let c3_i32_6 : BitVec 32 := 3#32
  let v11 : BitVec 32 := Scalar.select v10 c2_i32 c3_i32_6
  let c192_i32_103 : BitVec 32 := 192#32
  let v141 : BitVec 32 := Scalar.muli v11 c192_i32_103
  let c0_i32_119 : BitVec 32 := 0#32
  ![v141.toNat, 0]
def k0_dev6 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_115 : BitVec 32 := 1#32
  let v151 : BitVec 32 := Scalar.muli v3 c1_i32_115
  let v152 : BitVec 32 := Scalar.addi c0_i32_116 v151
  v152.toNat
def k0_dev7 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_166 : BitVec 32 := 1#32
  let v208 : BitVec 32 := Scalar.muli v3 c1_i32_166
  let v209 : BitVec 32 := Scalar.addi c0_i32_167 v208
  v209.toNat
def k0_dev8 (d0 : Dev nD) : Nat :=
  let c0_i32_173 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_172 : BitVec 32 := 1#32
  let v216 : BitVec 32 := Scalar.muli v4 c1_i32_172
  let v217 : BitVec 32 := Scalar.addi c0_i32_173 v216
  v217.toNat
abbrev stage0_0 : Fin 1 → Memref sig .tc .vmem S768x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x1536 : Shape := ⟨2, ![768, 1536]⟩
abbrev S1536x768 : Shape := ⟨2, ![1536, 768]⟩
abbrev S768x768 : Shape := ⟨2, ![768, 768]⟩

abbrev nBuf : Space → Nat
  | .hbm => 3
  | .vmem => 0
  | .smem => 0
  | _ => 0

abbrev bufTy : (tb : Table) → Fin (tcTables nBuf tb) → BufTy
  | .hbm, ⟨0, _⟩ => ⟨S768x1536, .f32⟩
  | .hbm, ⟨1, _⟩ => ⟨S1536x768, .f32⟩
  | .hbm, ⟨2, _⟩ => ⟨S768x768, .f32⟩
  | _, _ => ⟨S768x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Held.lean ====
/-
# Elements held under a view, known by what the view reads

The kernel works on quarters of its buffers: bands of 192 rows of the working matrix, of the result, and
the four landing slots. What a device owns of them is said here in one form, `held`: the elements under a view,
at some contents that the view reads as a given array. Below are the rules a body needs of that form: a load, a store,
a transfer's landing, the split of a buffer held whole into bands, and the way back.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the exchange's, whose duties are named by a Boolean -/

abbrev UX : Type := URounds (GSem nD τ sig) Bool
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

abbrev 𝒱₀ : Variants := Variants.none

/-! ## Held -/

section Held

variable {sp : Space} {s : Shape} {e : EltTy}

/-- Device `c` holds the share `q` of the elements under `v`, at contents that `v` reads as `X`. -/
def held (c : Dev nD) (v : View sig .tc sp s e) (q : PosShare TreeShare) (X : s.Idx → Elt F e) : sProp 𝕄 :=
  iprop(∃ f : Buf (Elt F) (v.loc (c : Thread nD τ)), ⌜v.read (Elt F) f = X⌝ ∗ (v.loc (c : Thread nD τ) ↦[v.set]{q} f))

omit [FloatOps F] in
instance held_storable (c : Dev nD) (v : View sig .tc sp s e) (q : PosShare TreeShare) (X : s.Idx → Elt F e) :
    BI.Storable (upEmb : UEmb _ 𝕄) (held c v q X) := by unfold held; infer_instance

omit [FloatOps F] in
/-- Both halves of the whole share hold what the whole share holds; -/
theorem held_halve (c : Dev nD) (v : View sig .tc sp s e) (X : s.Idx → Elt F e) :
    (held c v fullShare X : sProp 𝕄) ⊢ iprop(held c v fullShare.left X ∗ held c v fullShare.right X) := by
  unfold held
  iintro ⟨%f, %hf, H⟩
  ihave H := (pointsTo_share (PosShare.mem_left_op_right fullShare)).1 $$ H
  icases H with ⟨Hl, Hr⟩
  isplitl [Hl]
  · iexists f; isplitr
    · ipureintro; exact hf
    iexact Hl
  · iexists f; isplitr
    · ipureintro; exact hf
    iexact Hr

omit [FloatOps F] in
/-- and the halves join. -/
theorem held_join (c : Dev nD) (v : View sig .tc sp s e) (X Y : s.Idx → Elt F e) :
    iprop(held c v fullShare.left X ∗ held c v fullShare.right Y) ⊢ (held c v fullShare X : sProp 𝕄) := by
  unfold held
  iintro ⟨⟨%f, %hf, Hl⟩, ⟨%g, %hg, Hr⟩⟩
  ihave #H := (pointsTo_agree (ℓ := v.loc (c : Thread nD τ)) (I := v.set) (J := v.set) (q₁ := fullShare.left) (q₂ := fullShare.right)
    (f := f) (g := g)) $$ [Hl Hr]
  · isplitl [Hl] <;> iassumption
  icases H with %hfg
  ihave Hr := (Entails.of_eq (pointsTo_congr (q := fullShare.right) (f := g) (g := f)
    fun i hi => ((hfg i (Finset.mem_inter.mpr ⟨hi, hi⟩)).1).symm)) $$ Hr
  iexists f; isplitr
  · ipureintro; exact hf
  iapply (pointsTo_share (PosShare.mem_left_op_right fullShare)).2
  isplitl [Hl] <;> iassumption

variable {α : Type} {Q : α → sProp (MT nD τ sig Unit (Elt F) ℕ UU ℕ)}

/-- A load through a held rectangle yields what it is held at. -/
theorem held_load (c : Dev nD) {cs : CoreSpace} {m : Memref sig .tc cs s e} {r : Rect s} {hl : m.view.LoadsAt r.toLoadRect}
    {k : (r.shape.Idx → Elt F e) → Prog (TpuEff nD τ sig (Elt F) Λ₀ .tc) α} {q : PosShare TreeShare} {X : r.shape.Idx → Elt F e} :
    held c (m.access r) q X
      ⊢ iprop((held c (m.access r) q X -∗ wp frame (wpE (defs₀ (F := F)) 𝒱₀ (c : Thread nD τ) none) Set.univ (k X) Q)
        -∗ wp frame (wpE (defs₀ (F := F)) 𝒱₀ (c : Thread nD τ) none) Set.univ (.op (.load m r.toLoadRect hl) k) Q) := by
  unfold held
  iintro ⟨%f, %hf, H⟩ Hk
  subst hf
  iapply (wp_load_rect 𝒱₀ (c : Thread nD τ) none Set.univ (m := m) (r := r) (f := f) subset_rfl) $$ H
  iintro H
  iapply Hk
  iexists f; isplitr
  · ipureintro; rfl
  iexact H

/-- A store through a rectangle held outright leaves it held at what was stored. -/
theorem held_store (c : Dev nD) {cs : CoreSpace} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {X : r.shape.Idx → Elt F e} :
    held c (m.access r) fullShare X
      ⊢ iprop((held c (m.access r) fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  unfold held
  iintro ⟨%f, %hf, H⟩ Hk
  iapply (wp_store 𝒱₀ (c : Thread nD τ) none Set.univ (m := m) (r := r) (Mk := Finset.univ) (f := f) (View.setOn_subset_set _ _)) $$ H
  iintro H
  iapply Hk
  iexists _; isplitr
  swap; · iexact H
  ipureintro; exact View.read_write_univ _ _

/-- A load of a rectangle of which another shape's counting is held yields an array that reads so at that shape. -/
theorem held_load_recount (c : Dev nD) {cs : CoreSpace} {m : Memref sig .tc cs s e} {r : Rect s} {hl : m.view.LoadsAt r.toLoadRect}
    {t : Shape} (ht : t.numel = r.shape.numel) (hc : r.shape.ShapeCasts t)
    {k : (r.shape.Idx → Elt F e) → Prog (TpuEff nD τ sig (Elt F) Λ₀ .tc) α} {q : PosShare TreeShare} {X : t.Idx → Elt F e} :
    held c ((m.access r).reshape t ht) q X
      ⊢ iprop((∀ v, ⌜shapeCast t v hc = X⌝ -∗ held c ((m.access r).reshape t ht) q X
            -∗ wp frame (wpE (defs₀ (F := F)) 𝒱₀ (c : Thread nD τ) none) Set.univ (k v) Q)
        -∗ wp frame (wpE (defs₀ (F := F)) 𝒱₀ (c : Thread nD τ) none) Set.univ (.op (.load m r.toLoadRect hl) k) Q) := by
  unfold held
  iintro ⟨%f, %hf, H⟩ Hk
  iapply (wp_load_rect 𝒱₀ (c : Thread nD τ) none Set.univ (m := m) (r := r) (f := f) (by rw [View.set_reshape])) $$ H
  iintro H
  iapply Hk $$ [] [H]
  · ipureintro
    exact hf
  iexists f; isplitr
  · ipureintro; exact hf
  iexact H

/-- What lands under a view held outright is held there. -/
theorem held_landed (c : Dev nD) (v : View sig .tc sp s e) (f : Buf (Elt F) (v.loc (c : Thread nD τ))) (X : s.Idx → Elt F e) :
    (v.loc (c : Thread nD τ) ↦[v.set]{fullShare} v.write (Elt F) f X Finset.univ : sProp 𝕄) ⊢ held c v fullShare X := by
  unfold held
  iintro H
  iexists _; isplitr
  swap; · iexact H
  ipureintro; exact View.read_write_univ _ _

omit [FloatOps F] in
/-- Held at some array, whatever the counting: the counting may be changed, -/
theorem held_recount (c : Dev nD) (v : View sig .tc sp s e) (t : Shape) (ht : t.numel = s.numel) (q : PosShare TreeShare) :
    (iprop(∃ X, held c v q X) : sProp 𝕄) ⊢ iprop(∃ X, held c (v.reshape t ht) q X) := by
  unfold held
  iintro ⟨%X, %f, -, H⟩
  iexists _; iexists f; isplitr
  · ipureintro; rfl
  rw [View.set_reshape]
  iexact H

omit [FloatOps F] in
/-- and changed back. -/
theorem held_uncount (c : Dev nD) (v : View sig .tc sp s e) (t : Shape) (ht : t.numel = s.numel) (q : PosShare TreeShare) :
    (iprop(∃ X, held c (v.reshape t ht) q X) : sProp 𝕄) ⊢ iprop(∃ X, held c v q X) := by
  unfold held
  iintro ⟨%X, %f, -, H⟩
  iexists _; iexists f; isplitr
  · ipureintro; rfl
  rw [View.set_reshape]
  iexact H

end Held

/-! ## A whole buffer and its bands -/

section Bands

variable (c : Dev nD) (b : Ref sig .tc) (r : Fin 4 → Rect b.ty.shape)

omit [FloatOps F] in
/-- A buffer held whole is held rectangle by rectangle of a tiling. -/
theorem held_split (hd : ∀ i j, i ≠ j → Disjoint (r i).set (r j).set) (hu : Finset.univ.biUnion (fun i => (r i).set) = Finset.univ)
    (f : Buf (Elt F) ((c : Thread nD τ).loc b)) :
    (((c : Thread nD τ).loc b) ↦{fullShare} f : sProp 𝕄)
      ⊢ bigSep Finset.univ (fun i => held c ((View.whole b).slice (r i)) fullShare (((View.whole b).slice (r i)).read (Elt F) f)) := by
  rw [Ring.pointsTo_blocks (fun i => (r i).set) hd hu f]
  refine bigSep_mono fun i _ => show (((c : Thread nD τ).loc b) ↦[(r i).set]{fullShare} f : sProp 𝕄)
      ⊢ held c ((View.whole b).slice (r i)) fullShare (((View.whole b).slice (r i)).read (Elt F) f) from ?_
  unfold held
  iintro H
  iexists f; isplitr
  · ipureintro; rfl
  rw [View.set_slice_whole]
  iexact H

omit [FloatOps F] in
/-- A tiling's rectangles, each held at an array of its own, make the buffer whole at contents that read so. -/
theorem held_gather (hd : ∀ i j, i ≠ j → Disjoint (r i).set (r j).set) (hu : Finset.univ.biUnion (fun i => (r i).set) = Finset.univ)
    (f₀ : Buf (Elt F) ((c : Thread nD τ).loc b)) (X : ∀ i, (r i).shape.Idx → Elt F b.ty.elt) :
    bigSep Finset.univ (fun i => held c ((View.whole b).slice (r i)) fullShare (X i))
      ⊢ (iprop(∃ f : Buf (Elt F) ((c : Thread nD τ).loc b), ⌜∀ i, ((View.whole b).slice (r i)).read (Elt F) f = X i⌝
          ∗ (((c : Thread nD τ).loc b) ↦{fullShare} f)) : sProp 𝕄) := by
  have : ∀ i, Nonempty (Buf (Elt F) (((View.whole b).slice (r i)).loc (c : Thread nD τ))) := fun _ => ⟨f₀⟩
  unfold held
  refine (bigSep_exists_pi Finset.univ (fun i (f : Buf (Elt F) (((View.whole b).slice (r i)).loc (c : Thread nD τ))) =>
    iprop(⌜((View.whole b).slice (r i)).read (Elt F) f = X i⌝
      ∗ (((View.whole b).slice (r i)).loc (c : Thread nD τ) ↦[((View.whole b).slice (r i)).set]{fullShare} f)))).trans ?_
  iintro ⟨%fs, H⟩
  ihave H := (bigSep_pure_sep Finset.univ (fun i => ((View.whole b).slice (r i)).read (Elt F) (fs i) = X i)
    (fun i => (((View.whole b).slice (r i)).loc (c : Thread nD τ) ↦[((View.whole b).slice (r i)).set]{fullShare} fs i : sProp 𝕄))) $$ H
  icases H with ⟨%hfs, H⟩
  simp only [View.set_slice_whole]
  ihave H := (pointsTo_biUnion_join (ℓ := (c : Thread nD τ).loc b) Finset.univ (fun i => (r i).set) fs f₀ (fun i _ j _ h => hd i j h)) $$ H
  icases H with ⟨%g, %hg, H⟩
  rw [hu]
  iexists g; isplitr
  · ipureintro
    intro i
    rw [← hfs i (Finset.mem_univ i)]
    exact View.read_congr fun x hx => hg i (Finset.mem_univ i) x (by rwa [View.set_slice_whole] at hx)
  iexact H

/-- The contents made of one array per rectangle of a tiling. -/
theorem glue_exists (hd : ∀ i j, i ≠ j → Disjoint (r i).set (r j).set) (hu : Finset.univ.biUnion (fun i => (r i).set) = Finset.univ)
    {V : EltTy → Type} (X : ∀ i, (r i).shape.Idx → V b.ty.elt) :
    ∃ f : b.ty.Contents V, ∀ i, ((View.whole b).slice (r i)).read V f = X i := by
  have hmem : ∀ x : b.ty.shape.Idx, ∃ p : (i : Fin 4) × (r i).shape.Idx, (r p.1).emb p.2 = x := fun x => by
    obtain ⟨i, -, hi⟩ := Finset.mem_biUnion.mp (hu ▸ Finset.mem_univ x)
    rw [← Rect.map_emb_univ] at hi
    obtain ⟨j, -, hj⟩ := Finset.mem_map.mp hi
    exact ⟨⟨i, j⟩, hj⟩
  choose p hp using hmem
  refine ⟨fun x => X (p x).1 (p x).2, fun i => funext fun j => ?_⟩
  show X (p ((r i).emb j)).1 (p ((r i).emb j)).2 = X i j
  have h := hp ((r i).emb j)
  obtain ⟨⟨i', j'⟩, hq⟩ : ∃ q, p ((r i).emb j) = q := ⟨_, rfl⟩
  rw [hq] at h ⊢
  have hi : i' = i := by
    by_contra hne
    refine (Finset.disjoint_left.mp (hd i' i hne) : ∀ ⦃x⦄, x ∈ (r i').set → x ∉ (r i).set) (?_ : (r i).emb j ∈ _) ?_
    · rw [← h, ← Rect.map_emb_univ]; exact Finset.mem_map_of_mem _ (Finset.mem_univ _)
    · rw [← Rect.map_emb_univ]; exact Finset.mem_map_of_mem _ (Finset.mem_univ _)
  subst hi
  rw [(r i').emb.injective h]

/-- Contents that read alike through every rectangle of a covering are equal. -/
theorem eq_of_reads (hu : Finset.univ.biUnion (fun i => (r i).set) = Finset.univ) {V : EltTy → Type} {f g : b.ty.Contents V}
    (h : ∀ i, ((View.whole b).slice (r i)).read V f = ((View.whole b).slice (r i)).read V g) : f = g := funext fun x => by
  obtain ⟨i, -, hi⟩ := Finset.mem_biUnion.mp (hu ▸ Finset.mem_univ x)
  rw [← Rect.map_emb_univ] at hi
  obtain ⟨j, -, rfl⟩ := Finset.mem_map.mp hi
  exact congrFun (h i) j

end Bands

end Cert.Exchange

end
-- ==== Proof.Sched.lean ====
/-
# The exchange: devices, cells, contents, schedule, levels

Four devices, each with its own 768×384 block of the left operand and 384×768 block of the right one. Each device
multiplies its blocks quarter by quarter (192 rows of the 768) into its working matrix. Two quarters are summed first
with the partner `px` and then with the partner `py`; the other two first with `py` and then with `px`. The sums
are then handed back: at the end every device holds all four quarters summed over all four devices.

A device sends six copies, numbered 0 … 5 as the kernel's semaphores number them:

  0  its quarter `ox` to `px`, landing slot 0        1  its quarter `oy` to `py`, landing slot 1
  2  its quarter `kx` to `py`, landing slot 2        3  its quarter `ky` to `px`, landing slot 3
  4  its quarter `kx` to `px`, in place              5  its quarter `ky` to `py`, in place

This file says who owes whom what: the cells, the schedule of the one round, the contents at every stage, and
the levels that order the waits.
-/
module

public import proofs.«01_k».proof.Proof.Held

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Devices and quarters -/

/-- The two partners of a device; -/
def px (c : Dev nD) : Dev nD := (![1, 0, 3, 2] : Fin 4 → Fin 4) c
def py (c : Dev nD) : Dev nD := (![3, 2, 1, 0] : Fin 4 → Fin 4) c
/-- of the first two quarters the one it keeps and the one it gives `px`; of the last two likewise, with `py`. -/
def kx (c : Dev nD) : Fin 4 := (![0, 1, 1, 0] : Fin 4 → Fin 4) c
def ox (c : Dev nD) : Fin 4 := (![1, 0, 0, 1] : Fin 4 → Fin 4) c
def ky (c : Dev nD) : Fin 4 := (![2, 2, 3, 3] : Fin 4 → Fin 4) c
def oy (c : Dev nD) : Fin 4 := (![3, 3, 2, 2] : Fin 4 → Fin 4) c

theorem px_px (c : Dev nD) : px (px c) = c := by revert c; decide
theorem py_py (c : Dev nD) : py (py c) = c := by revert c; decide
theorem ox_eq (c : Dev nD) : ox c = kx (px c) := by revert c; decide
theorem oy_eq (c : Dev nD) : oy c = ky (py c) := by revert c; decide
theorem ox_px (c : Dev nD) : ox (px c) = kx c := by revert c; decide
theorem oy_py (c : Dev nD) : oy (py c) = ky c := by revert c; decide
theorem kx_py (c : Dev nD) : kx (py c) = kx c := by revert c; decide
theorem ky_px (c : Dev nD) : ky (px c) = ky c := by revert c; decide

/-- The receiver of a device's copy `i`, which is also the sender of the copy `i` it receives; -/
def peer (i : Fin 6) (c : Dev nD) : Dev nD := (![px c, py c, py c, px c, px c, py c] : Fin 6 → Dev nD) i
/-- and the quarter the copy is of. -/
def srcQ (i : Fin 6) (c : Dev nD) : Fin 4 := (![ox c, oy c, kx c, ky c, kx c, ky c] : Fin 6 → Fin 4) i

theorem peer_peer (i : Fin 6) (c : Dev nD) : peer i (peer i c) = c := by revert i c; decide

/-! ## Rows and slots -/

abbrev aS : Memref sig .tc .vmem S768x384 .f32 := Memref.whole cc0_stg0_0
abbrev bS : Memref sig .tc .vmem S384x768 .f32 := Memref.whole cc0_stg1_0
abbrev oS : Memref sig .tc .vmem S768x768 .f32 := Memref.whole cc0_stg2_0
abbrev wM : Memref sig .tc .vmem S768x768 .bf16 := Memref.whole cc0_scratch0
abbrev cM : Memref sig .tc .vmem S4x192x768 .bf16 := Memref.whole cc0_scratch1
abbrev bM : Memref sig .tc .vmem S384x768 .bf16 := Memref.whole cc0_scratch2

/-- Where the quarter `q` starts, -/
def rowOff (q : Fin 4) : Fin 2 → ℕ := ![192 * q.val, 0]
theorem rowOff_inb (q : Fin 4) : ∀ a, rowOff q a + S192x768.size a ≤ S768x768.size a := by revert q; decide
theorem rowOff_inbA (q : Fin 4) : ∀ a, rowOff q a + S192x384.size a ≤ S768x384.size a := by revert q; decide
/-- its rows in a 768×768 matrix and in the left block, -/
abbrev rowRect (q : Fin 4) : Rect S768x768 := Rect.unit (s := S768x768) (rowOff q) S192x768.size (rowOff_inb q)
abbrev rowRectA (q : Fin 4) : Rect S768x384 := Rect.unit (s := S768x384) (rowOff q) S192x384.size (rowOff_inbA q)
/-- and the landing slots. -/
def slotOff (i : Fin 4) : Fin 3 → ℕ := ![i.val, 0, 0]
theorem slotOff_inb (i : Fin 4) : ∀ a, slotOff i a + S1x192x768.size a ≤ S4x192x768.size a := by revert i; decide
abbrev slotRect (i : Fin 4) : Rect S4x192x768 := Rect.unit (s := S4x192x768) (slotOff i) S1x192x768.size (slotOff_inb i)

theorem rows_disjoint (i j : Fin 4) (h : i ≠ j) : Disjoint (rowRect i).set (rowRect j).set :=
  Ring.lead_disjoint (s := S768x768) (NB := 4) (R := 192) (a₀ := (0 : Fin 2)) rowOff S192x768.size rowOff_inb (fun _ => rfl) rfl i j h
theorem rows_cover : Finset.univ.biUnion (fun i => (rowRect i).set) = Finset.univ :=
  Ring.lead_cover (s := S768x768) (NB := 4) (R := 192) (a₀ := (0 : Fin 2)) rowOff S192x768.size rowOff_inb (fun _ => rfl)
    (fun b a ha => by fin_cases a <;> first | exact absurd rfl ha | rfl) rfl (fun a ha => by fin_cases a <;> first | exact absurd rfl ha | rfl) rfl
theorem slots_disjoint (i j : Fin 4) (h : i ≠ j) : Disjoint (slotRect i).set (slotRect j).set :=
  Ring.lead_disjoint (s := S4x192x768) (NB := 4) (R := 1) (a₀ := (0 : Fin 3)) slotOff S1x192x768.size slotOff_inb (fun b => (Nat.one_mul _).symm) rfl i j h
theorem slots_cover : Finset.univ.biUnion (fun i => (slotRect i).set) = Finset.univ :=
  Ring.lead_cover (s := S4x192x768) (NB := 4) (R := 1) (a₀ := (0 : Fin 3)) slotOff S1x192x768.size slotOff_inb (fun b => (Nat.one_mul _).symm)
    (fun b a ha => by fin_cases a <;> first | exact absurd rfl ha | rfl) rfl (fun a ha => by fin_cases a <;> first | exact absurd rfl ha | rfl) rfl

/-- The quarter `q` of the working matrix, and a landing slot as a 192×768 matrix. -/
abbrev rowView (q : Fin 4) : View sig .tc .vmem S192x768 .bf16 := wM.access (rowRect q)
abbrev slotView (i : Fin 4) : View sig .tc .vmem S192x768 .bf16 :=
  ((cM.slice (slotRect i) (fun _ => rfl)).squeeze S192x768 squeezes_S1x192x768_S192x768).view

abbrev N : ℕ := (rowView 0).dmaCredit
theorem N_pos : 0 < N := View.dmaCredit_pos _ (by decide)
theorem credit_row (q : Fin 4) : (rowView q).dmaCredit = N := rfl
theorem credit_slot (i : Fin 4) : (slotView i).dmaCredit = N := rfl

/-- Device `c` holds the share `π` of its quarter `q` at `X`; -/
def rows (c : Dev nD) (q : Fin 4) (π : PosShare TreeShare) (X : Vec F S192x768 .bf16) : sProp 𝕄 := held c (rowView q) π X
/-- its slot `i` at `X`; -/
def slot (c : Dev nD) (i : Fin 4) (X : Vec F S192x768 .bf16) : sProp 𝕄 := held c (slotView i) fullShare X
/-- its quarter `q`, or its slot `i`, at whatever it holds. -/
def anyRows (c : Dev nD) (q : Fin 4) : sProp 𝕄 := iprop(∃ X, rows c q fullShare X)
def anySlot (c : Dev nD) (i : Fin 4) : sProp 𝕄 := iprop(∃ X, slot c i X)

omit [FloatOps F] in
instance rows_storable (c : Dev nD) (q : Fin 4) (π : PosShare TreeShare) (X : Vec F S192x768 .bf16) :
    BI.Storable (upEmb : UEmb _ 𝕄) (rows c q π X) := by unfold rows; infer_instance
omit [FloatOps F] in
instance slot_storable (c : Dev nD) (i : Fin 4) (X : Vec F S192x768 .bf16) : BI.Storable (upEmb : UEmb _ 𝕄) (slot c i X) := by
  unfold slot; infer_instance
omit [FloatOps F] in
instance anyRows_storable (c : Dev nD) (q : Fin 4) : BI.Storable (upEmb : UEmb _ 𝕄) (anyRows (F := F) c q) := by unfold anyRows; infer_instance
omit [FloatOps F] in
instance anySlot_storable (c : Dev nD) (i : Fin 4) : BI.Storable (upEmb : UEmb _ 𝕄) (anySlot (F := F) c i) := by unfold anySlot; infer_instance

/-! ## Cells -/

/-- The barrier semaphore, and the semaphores on which copy `i` reports its departure and its arrival. -/
abbrev barS : Sem sig := (SemArray.scalar (sig.barrier 0 rfl) : Sems sig S_).sem
set_option backward.proofsInPublic true in
def snd (i : Fin 6) : DmaSem sig := ⟨3 + i.val, by have := i.isLt; show 3 + i.val < 15; omega⟩
set_option backward.proofsInPublic true in
def rcv (i : Fin 6) : DmaSem sig := ⟨9 + i.val, by have := i.isLt; show 9 + i.val < 15; omega⟩

abbrev barCell (c : Dev nD) : GSem nD τ sig := ((c : Thread nD τ), .reg barS)
abbrev sndCell (c : Dev nD) (i : Fin 6) : GSem nD τ sig := ((c : Thread nD τ), .dma (snd i))
abbrev rcvCell (c : Dev nD) (i : Fin 6) : GSem nD τ sig := ((c : Thread nD τ), .dma (rcv i))

set_option backward.proofsInPublic true in
/-- The kernel's own twelve semaphores in one count, and with the barrier thirteen. -/
def osem (k : Fin 12) : SemLoc sig := .dma ⟨3 + k.val, by have := k.isLt; show 3 + k.val < 15; omega⟩
def csem : Fin 13 → SemLoc sig := Fin.cons (.reg barS) osem
def kcell (ck : Dev nD × Fin 13) : GSem nD τ sig := ((ck.1 : Thread nD τ), csem ck.2)
set_option backward.proofsInPublic true in
def kS (i : Fin 6) : Fin 13 := ⟨1 + i.val, by omega⟩
set_option backward.proofsInPublic true in
def kR (i : Fin 6) : Fin 13 := ⟨7 + i.val, by omega⟩

theorem kcell_bar (c : Dev nD) : kcell (c, 0) = barCell c := rfl
theorem csem_snd (i : Fin 6) : csem (kS i) = .dma (snd i) := by revert i; decide
theorem csem_rcv (i : Fin 6) : csem (kR i) = .dma (rcv i) := by revert i; decide
theorem kcell_snd (c : Dev nD) (i : Fin 6) : kcell (c, kS i) = sndCell c i := congrArg (Prod.mk (c : Thread nD τ)) (csem_snd i)
theorem kcell_rcv (c : Dev nD) (i : Fin 6) : kcell (c, kR i) = rcvCell c i := congrArg (Prod.mk (c : Thread nD τ)) (csem_rcv i)

/-! ## Contents -/

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- Device `c`'s blocks of the operands, as its staging buffers hold them. -/
def lhs (c : Dev nD) : (cc0_stg0_0 : Ref sig .tc).ty.Contents (Elt F) := (win0_0.blk (0 : Fin 1)).view.read (Elt F) (m ((c : Thread nD τ).loc main_arg0))
def rhs (c : Dev nD) : (cc0_stg1_0 : Ref sig .tc).ty.Contents (Elt F) := (win0_1.blk (0 : Fin 1)).view.read (Elt F) (m ((c : Thread nD τ).loc main_arg1))

/-- The right block rounded to the working type, and the quarter `q` of the left one. -/
def rhsW (c : Dev nD) : Vec F S384x768 .bf16 := k0_pay1 (rhs m c)
def lhsQ (c : Dev nD) (q : Fin 4) : Vec F S192x384 .f32 := (aS.access (rowRectA q)).read (Elt F) (lhs m c)
/-- The quarter `q` of device `c`'s own product. -/
def part (c : Dev nD) (q : Fin 4) : Vec F S192x768 .bf16 := k0_pay4 (lhsQ m c q) (rhsW m c)
/-- A quarter with what landed for it added. -/
def plus (x y : Vec F S192x768 .bf16) : Vec F S192x768 .bf16 := shapeCast S192x768 (addf x y) shapeCasts_S192x768_S192x768
/-- The kept quarters after one sum, -/
def oneX (c : Dev nD) : Vec F S192x768 .bf16 := plus (part m c (kx c)) (part m (px c) (ox (px c)))
def oneY (c : Dev nD) : Vec F S192x768 .bf16 := plus (part m c (ky c)) (part m (py c) (oy (py c)))
/-- and after both. -/
def twoX (c : Dev nD) : Vec F S192x768 .bf16 := plus (oneX m c) (oneX m (py c))
def twoY (c : Dev nD) : Vec F S192x768 .bf16 := plus (oneY m c) (oneY m (px c))
/-- What copy `i` of device `c` carries. -/
def srcV (i : Fin 6) (c : Dev nD) : Vec F S192x768 .bf16 :=
  (![part m c (ox c), part m c (oy c), oneX m c, oneY m c, twoX m c, twoY m c] : Fin 6 → Vec F S192x768 .bf16) i
/-- The share of the source it holds while under way: the last two leave half to be read meanwhile. -/
def shareOf (i : Fin 6) : PosShare TreeShare :=
  (![fullShare, fullShare, fullShare, fullShare, fullShare.left, fullShare.left] : Fin 6 → PosShare TreeShare) i

/-- The quarter `q` of the working matrix at the end. -/
def endV (c : Dev nD) (q : Fin 4) : Vec F S192x768 .bf16 :=
  if q = kx c then twoX m c else if q = ky c then twoY m c else if q = ox c then twoX m (px c) else twoY m (py c)
/-- The result's contents: quarter by quarter the working matrix at the end, widened. -/
def outAt (c : Dev nD) : (cc0_stg2_0 : Ref sig .tc).ty.Contents (Elt F) :=
  (glue_exists cc0_stg2_0 rowRect rows_disjoint rows_cover (V := Elt F) fun q => k0_pay11 (endV m c q)).choose
theorem outAt_read (c : Dev nD) (q : Fin 4) : (oS.access (rowRect q)).read (Elt F) (outAt m c) = k0_pay11 (endV m c q) :=
  (glue_exists cc0_stg2_0 rowRect rows_disjoint rows_cover (V := Elt F) fun q => k0_pay11 (endV m c q)).choose_spec q

/-! ## The schedule -/

/-- What `px c`'s signal (`false`) and `py c`'s (`true`) hand device `c`: the slots it will send into. -/
def barPay (c : Dev nD) (d : Bool) : sProp 𝕄 :=
  if d then iprop(anySlot (py c) 1 ∗ anySlot (py c) 2) else iprop(anySlot (px c) 0 ∗ anySlot (px c) 3)
/-- What comes back to the sender of copy `i`: the source. -/
def sndPay (c : Dev nD) (i : Fin 6) : sProp 𝕄 := rows c (srcQ i c) (shareOf i) (srcV m i c)
/-- What a landing hands over beside the landed array: the quarter of the sender that the receiver will send
    back into. -/
def extra (c : Dev nD) (i : Fin 6) : sProp 𝕄 :=
  if i = 2 then anyRows (py c) (oy (py c)) else if i = 3 then anyRows (px c) (ox (px c)) else iprop(emp)
/-- The landed array itself. -/
def landed (c : Dev nD) (i : Fin 6) (X : Vec F S192x768 .bf16) : sProp 𝕄 :=
  if h : i.val < 4 then slot c ⟨i.val, h⟩ X else rows c (srcQ i (peer i c)) fullShare X
def rcvPay (c : Dev nD) (i : Fin 6) : sProp 𝕄 := iprop(landed c i (srcV m i (peer i c)) ∗ extra c i)

set_option backward.proofsInPublic true in
def dmaPay (c : Dev nD) (s : DmaSem sig) : sProp 𝕄 :=
  if h : 9 ≤ s.val then rcvPay m c ⟨s.val - 9, by have : s.val < 15 := s.isLt; omega⟩
  else if h : 3 ≤ s.val then sndPay m c ⟨s.val - 3, by omega⟩ else iprop(emp)

/-- One round. A barrier cell has two duties of one unit, every semaphore of the kernel's own one duty of a copy's credit. -/
def rd : Rounds.Schedule (GSem nD τ sig) Bool 𝕄 where
  duties g r := if r = 0 ∧ g.1.2 = .tc then (match g.2 with | .reg _ => Finset.univ | .dma s => if 3 ≤ s.val then {false} else ∅) else ∅
  unitless _ := False
  amount g _ _ := match g.2 with | .reg _ => 1 | .dma _ => N
  payload g _ d := match g.2 with | .reg _ => barPay g.1.1 d | .dma s => dmaPay m g.1.1 s
  amount_pos g _ _ _ := by
    rcases g with ⟨_, s | s⟩
    · exact Nat.one_pos
    · exact N_pos

omit [FloatOps F] in
instance barPay_storable (c : Dev nD) (d : Bool) : BI.Storable (upEmb : UEmb _ 𝕄) (barPay (F := F) c d) := by
  unfold barPay; split <;> infer_instance
omit [FloatOps F] in
instance extra_storable (c : Dev nD) (i : Fin 6) : BI.Storable (upEmb : UEmb _ 𝕄) (extra (F := F) c i) := by
  unfold extra; (repeat' split) <;> infer_instance
omit [FloatOps F] in
instance landed_storable (c : Dev nD) (i : Fin 6) (X : Vec F S192x768 .bf16) : BI.Storable (upEmb : UEmb _ 𝕄) (landed c i X) := by
  unfold landed; split <;> infer_instance
instance dmaPay_storable (c : Dev nD) (s : DmaSem sig) : BI.Storable (upEmb : UEmb _ 𝕄) (dmaPay m c s) := by
  unfold dmaPay rcvPay sndPay; (repeat' split) <;> infer_instance
instance rd_storable (g : GSem nD τ sig) (r : ℕ) (d : Bool) : BI.Storable (upEmb : UEmb _ 𝕄) ((rd m).payload g r d) := by
  show BI.Storable upEmb (match g.2 with | .reg _ => barPay g.1.1 d | .dma s => dmaPay m g.1.1 s)
  split <;> infer_instance

section Table
variable (c : Dev nD) (i : Fin 6)

theorem duties_bar : (rd m).duties (barCell c) 0 = Finset.univ := rfl
theorem duties_snd : (rd m).duties (sndCell c i) 0 = {false} := by
  dsimp only [rd]; rw [if_pos ⟨rfl, rfl⟩]; exact if_pos (Nat.le_add_right 3 _)
theorem duties_rcv : (rd m).duties (rcvCell c i) 0 = {false} := by
  dsimp only [rd]; rw [if_pos ⟨rfl, rfl⟩]; exact if_pos (by show 3 ≤ 9 + i.val; omega)
theorem duties_later (g : GSem nD τ sig) : ∀ r, 1 ≤ r → (rd m).duties g r = ∅ := fun r hr => if_neg fun h => by omega

theorem expect_bar : (rd m).expect (barCell c) 0 = 2 := rfl
theorem expect_snd : (rd m).expect (sndCell c i) 0 = N := by
  unfold Schedule.expect Schedule.amountOf; rw [duties_snd, Finset.sum_singleton]; rfl
theorem expect_rcv : (rd m).expect (rcvCell c i) 0 = N := by
  unfold Schedule.expect Schedule.amountOf; rw [duties_rcv, Finset.sum_singleton]; rfl

theorem payload_bar (d : Bool) : (rd m).payload (barCell c) 0 d = barPay c d := rfl
theorem payload_snd (d : Bool) : (rd m).payload (sndCell c i) 0 d = sndPay m c i := by
  show dmaPay m c (snd i) = _
  unfold dmaPay
  rw [dif_neg (by show ¬ 9 ≤ 3 + i.val; omega), dif_pos (by show 3 ≤ 3 + i.val; omega)]
  exact congrArg (sndPay m c) (Fin.ext (by show 3 + i.val - 3 = i.val; omega))
theorem payload_rcv (d : Bool) : (rd m).payload (rcvCell c i) 0 d = rcvPay m c i := by
  show dmaPay m c (rcv i) = _
  unfold dmaPay
  rw [dif_pos (by show 9 ≤ 9 + i.val; omega)]
  exact congrArg (rcvPay m c) (Fin.ext (by show 9 + i.val - 9 = i.val; omega))

end Table

/-! ## What a device owes -/

/-- Copy `i`'s landing; -/
def due (c : Dev nD) (i : Fin 6) : CellTallies nD τ sig Unit := tallyAt (rcvCell (peer i c) i) () N
set_option backward.proofsInPublic true in
/-- the landings of the last `n` copies; -/
def owing (c : Dev nD) : ℕ → CellTallies nD τ sig Unit
  | 0 => 0
  | n + 1 => owing c n + due c ⟨5 - n, by omega⟩
/-- with the signal to `py`, and with both. -/
def O₁ (c : Dev nD) : CellTallies nD τ sig Unit := owing c 6 + tallyAt (barCell (py c)) () 1
def O₀ (c : Dev nD) : CellTallies nD τ sig Unit := O₁ c + tallyAt (barCell (px c)) () 1

theorem owing_pos {c : Dev nD} {g : GSem nD τ sig} {u : Unit} : ∀ {n : ℕ}, n ≤ 6 → 0 < owing c n g u →
    ∃ i : Fin 6, 6 - n ≤ i.val ∧ g = rcvCell (peer i c) i
  | 0, _, h => absurd h (Nat.lt_irrefl 0)
  | n + 1, hn, h => by
    unfold owing at h
    rw [Pi.add_apply, Finsupp.add_apply] at h
    by_cases hd : 0 < owing c n g u
    · obtain ⟨i, hi, hg⟩ := owing_pos (by omega) hd
      exact ⟨i, by omega, hg⟩
    · have h' : 0 < due c ⟨5 - n, by omega⟩ g u := by omega
      unfold due at h'
      rw [tallyAt_apply] at h'
      by_contra hno
      rw [if_neg fun hh => hno ⟨⟨5 - n, by omega⟩, by show 6 - (n + 1) ≤ 5 - n; omega, hh.1⟩] at h'
      exact Nat.lt_irrefl 0 h'

theorem O₀_pos {c : Dev nD} {g : GSem nD τ sig} {u : Unit} (h : 0 < O₀ c g u) :
    (∃ i : Fin 6, g = rcvCell (peer i c) i) ∨ g = barCell (py c) ∨ g = barCell (px c) := by
  unfold O₀ O₁ at h
  rw [Pi.add_apply, Finsupp.add_apply, Pi.add_apply, Finsupp.add_apply, tallyAt_apply, tallyAt_apply] at h
  by_cases hy : g = barCell (py c)
  · exact .inr (.inl hy)
  by_cases hx : g = barCell (px c)
  · exact .inr (.inr hx)
  rw [if_neg fun hh => hy hh.1, if_neg fun hh => hx hh.1] at h
  obtain ⟨i, -, hi⟩ := owing_pos (n := 6) le_rfl (by omega)
  exact .inl ⟨i, hi⟩

/-! ## Levels -/

def L (g : GSem nD τ sig) : Finset Unit := if g.1.2 = .tc then {()} else ∅
/-- Departures and the pipeline's own at 0, barriers at 1, arrivals two by two at 2, 3, 4. -/
def lv (g : GSem nD τ sig) (_ : Unit) : ℕ := match g.2 with | .reg _ => 1 | .dma s => if s.val < 9 then 0 else (s.val - 9) / 2 + 2

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (i : Fin 6) (u : Unit) : lv (rcvCell c i) u = i.val / 2 + 2 := by
  show (if 9 + i.val < 9 then 0 else (9 + i.val - 9) / 2 + 2) = _
  rw [if_neg (by omega), Nat.add_sub_cancel_left]

omit [FloatOps F] in
/-- A device may wait on a cell below all it owes. -/
theorem mayWait_of {c : Dev nD} {sm : SemLoc sig} {O : CellTallies nD τ sig Unit}
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

omit [FloatOps F] in
/-- With the landings of the last `n` copies owed it may wait on any cell below theirs. -/
theorem mayWait_owing {c : Dev nD} {sm : SemLoc sig} {n : ℕ} (hn : n ≤ 6) (hl : lv ((c : Thread nD τ), sm) () < (6 - n) / 2 + 2) :
    (levAts L lv : sProp 𝕄) ⊢ MayWait (c : Thread nD τ) sm () (owing c n) :=
  mayWait_of fun g u hg => by
    obtain ⟨i, hi, rfl⟩ := owing_pos hn hg
    refine ⟨rfl, ?_⟩
    rw [lv_rcv]
    have := Nat.div_le_div_right (c := 2) hi
    omega

omit [FloatOps F] in
/-- The pipeline may wait on its own cells with everything or nothing owed. -/
theorem mayWait_stage (c : Dev nD) (s : DmaSem sig) (hs : s.val < 3) (O : CellTallies nD τ sig Unit) (hO : O = O₀ c ∨ O = 0) :
    (levAts L lv : sProp 𝕄) ⊢ MayWait (c : Thread nD τ) (.dma s) () O := by
  rcases hO with rfl | rfl
  · refine mayWait_of fun g u hg => ?_
    have h0 : lv ((c : Thread nD τ), .dma s) () = 0 := if_pos (by omega)
    rw [h0]
    rcases O₀_pos hg with ⟨i, rfl⟩ | rfl | rfl
    · exact ⟨rfl, by rw [lv_rcv]; omega⟩
    · exact ⟨rfl, Nat.one_pos⟩
    · exact ⟨rfl, Nat.one_pos⟩
  · rw [MayWait_zero]; iintro -; iempintro

/-! ## The pipeline's proof data -/

theorem cfg0_N : cfg0.N = 1 := by decide
set_option backward.proofsInPublic true in
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What every device knows: all invariants, under the names `K`; that every cell has reached its round; the levels. -/
def world (K : Dev nD × Fin 13 → ℕ) : sProp 𝕄 :=
  iprop((bigSep Finset.univ fun ck : Dev nD × Fin 13 => cellInv EX (rd m) (K ck) (kcell ck))
    ∗ (bigSep Finset.univ fun ck : Dev nD × Fin 13 => reached EX (kcell ck) 0) ∗ levAts L lv)
instance world_persistent (K : Dev nD × Fin 13 → ℕ) : BI.Persistent (world m K) := by unfold world; infer_instance

/-- The tokens of the duties device `c` pays: both signals, and its six copies' departures and arrivals. -/
def pays (c : Dev nD) : sProp 𝕄 :=
  iprop(dutyTok EX (barCell (px c)) 0 false ∗ dutyTok EX (barCell (py c)) 0 true
    ∗ (bigSep Finset.univ fun i : Fin 6 => dutyTok EX (sndCell c i) 0 false)
    ∗ bigSep Finset.univ fun i : Fin 6 => dutyTok EX (rcvCell (peer i c) i) 0 false)
/-- Its positions at its own cells. -/
def places (c : Dev nD) : sProp 𝕄 := bigSep Finset.univ fun k : Fin 13 => atPos EX (kcell (c, k)) 0 ∅ 0

/-- What device `c`'s body starts from beside its buffers. -/
def start (c : Dev nD) : sProp 𝕄 :=
  iprop((∃ K, world m K) ∗ places c ∗ pays c ∗ cred (tallyAt (barCell c) () 2)
    ∗ bigSep Finset.univ fun i : Fin 6 => cred (tallyAt (rcvCell c i) () N))

/-- The scratch buffers at whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scratch c)
/-- At the end: the scratch buffers, and every cell back at zero. -/
def Φ₁ (c : Dev nD) : sProp 𝕄 := iprop(scratch c ∗ bigSep Finset.univ fun k : Fin 13 => semVal (kcell (c, k)) 0)

def dats (_ : Fin 1) (c : Dev nD) : Dat τ (Elt F) Unit ℕ UU ℕ cfg0 c where
  A w := m ((cfg0.win w).arr.view.loc (c : Thread nD τ))
  after w _ := match w with
    | ⟨0, _⟩ => lhs m c
    | ⟨1, _⟩ => rhs m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.Exchange

end
-- ==== Proof.Steps.lean ====
/-
# The body's steps

The kernel does few things many times: it multiplies a quarter, adds what landed to a quarter, widens a quarter into the
result, starts a copy, and waits for one. Here is each of them once, at any quarter, slot or copy.
-/
module

public import proofs.«01_k».proof.Proof.Sched

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The program `p` run by device `c`'s core, its result meeting `Q`. -/
abbrev runs {α : Type} (c : Dev nD) (p : Prog (TpuEff nD τ sig (Elt F) Λ₀ .tc) α) (Q : α → sProp (MT nD τ sig Unit (Elt F) ℕ UU ℕ)) :
    sProp (MT nD τ sig Unit (Elt F) ℕ UU ℕ) :=
  wp frame (wpE (defs₀ (F := F)) 𝒱₀ (c : Thread nD τ) none) Set.univ p Q

/-! ## What every device knows -/

section World
variable (K : Dev nD × Fin 13 → ℕ) (ck : Dev nD × Fin 13)

theorem world_inv : world m K ⊢ cellInv EX (rd m) (K ck) (kcell ck) := by
  unfold world
  exact sep_elim_left.trans (show _ ⊢ _ from bigSep_elim (Φ := fun ck => cellInv EX (rd m) (K ck) (kcell ck)) (Finset.mem_univ ck))
theorem world_reached : world m K ⊢ reached EX (kcell ck) 0 := by
  unfold world
  exact sep_elim_right.trans (sep_elim_left.trans
    (show _ ⊢ _ from bigSep_elim (Φ := fun ck => (reached EX (kcell ck) 0 : sProp 𝕄)) (Finset.mem_univ ck)))
theorem world_levels : world m K ⊢ levAts L lv := by unfold world; iintro ⟨-, -, H⟩; iexact H
variable (c : Dev nD) (i : Fin 6)
theorem world_inv_snd : world m K ⊢ cellInv EX (rd m) (K (c, kS i)) (sndCell c i) := by rw [← kcell_snd]; exact world_inv m K _
theorem world_inv_rcv : world m K ⊢ cellInv EX (rd m) (K (c, kR i)) (rcvCell c i) := by rw [← kcell_rcv]; exact world_inv m K _
theorem world_reached_snd : world m K ⊢ reached EX (sndCell c i) 0 := by rw [← kcell_snd]; exact world_reached m K _
theorem world_reached_rcv : world m K ⊢ reached EX (rcvCell c i) 0 := by rw [← kcell_rcv]; exact world_reached m K _
end World

/-- Device `c` owes `O`, whatever it has waited for. -/
def debt (c : Dev nD) (O : CellTallies nD τ sig Unit) : sProp 𝕄 := iprop(∃ W, owes (c : Thread nD τ) O W)

variable {α : Type} {Q : α → sProp (MT nD τ sig Unit (Elt F) ℕ UU ℕ)}

/-! ## Where the kernel's offsets point -/

theorem off1 (c : Dev nD) : k0_off1 c = rowOff (ox c) := by revert c; decide +kernel
theorem off2 (c : Dev nD) : k0_off2 c = rowOff (ox c) := by revert c; decide +kernel
theorem off3 (c : Dev nD) : k0_off3 c = rowOff (oy c) := by revert c; decide +kernel
theorem off4 (c : Dev nD) : k0_off4 c = rowOff (oy c) := by revert c; decide +kernel
theorem off5 (c : Dev nD) : k0_off5 c = rowOff (ox c) := by revert c; decide +kernel
theorem off6 (c : Dev nD) : k0_off6 c = rowOff (oy c) := by revert c; decide +kernel
theorem off7 (c : Dev nD) : k0_off7 c = rowOff (kx c) := by revert c; decide +kernel
theorem off8 (c : Dev nD) : k0_off8 c = rowOff (kx c) := by revert c; decide +kernel
theorem off9 (c : Dev nD) : k0_off9 c = rowOff (ky c) := by revert c; decide +kernel
theorem off10 (c : Dev nD) : k0_off10 c = rowOff (ky c) := by revert c; decide +kernel
theorem off11 (c : Dev nD) : k0_off11 c = rowOff (kx c) := by revert c; decide +kernel
theorem off12 (c : Dev nD) : k0_off12 c = rowOff (ky c) := by revert c; decide +kernel
theorem dev1 (c : Dev nD) : (⟨k0_dev1 c, k0_dev1_lt c⟩ : Dev nD) = px c := by revert c; decide +kernel
theorem dev2 (c : Dev nD) : (⟨k0_dev2 c, k0_dev2_lt c⟩ : Dev nD) = py c := by revert c; decide +kernel
theorem dev3 (c : Dev nD) : (⟨k0_dev3 c, k0_dev3_lt c⟩ : Dev nD) = peer 0 c := by revert c; decide +kernel
theorem dev4 (c : Dev nD) : (⟨k0_dev4 c, k0_dev4_lt c⟩ : Dev nD) = peer 1 c := by revert c; decide +kernel
theorem dev5 (c : Dev nD) : (⟨k0_dev5 c, k0_dev5_lt c⟩ : Dev nD) = peer 2 c := by revert c; decide +kernel
theorem dev6 (c : Dev nD) : (⟨k0_dev6 c, k0_dev6_lt c⟩ : Dev nD) = peer 3 c := by revert c; decide +kernel
theorem dev7 (c : Dev nD) : (⟨k0_dev7 c, k0_dev7_lt c⟩ : Dev nD) = peer 4 c := by revert c; decide +kernel
theorem dev8 (c : Dev nD) : (⟨k0_dev8 c, k0_dev8_lt c⟩ : Dev nD) = peer 5 c := by revert c; decide +kernel

/-- The rows a kernel's offset names are a quarter. -/
theorem rowView_of (q : Fin 4) {off : Fin 2 → ℕ} (h : off = rowOff q) {inb : ∀ a, off a + S192x768.size a ≤ S768x768.size a} :
    wM.view.slice (Rect.unit (s := S768x768) off S192x768.size inb) = rowView q := by subst h; rfl

/-! ## Buffers held whole -/

theorem zeros : (![0, 0] : Fin 2 → ℕ) = fun _ => 0 := funext fun a => by fin_cases a <;> rfl

/-- A quarter of the left block loaded. -/
theorem lhs_load (c : Dev nD) (q : Fin 4) {off : Fin 2 → ℕ} (h : off = rowOff q) {inb : ∀ a, off a + S192x384.size a ≤ S768x384.size a}
    {hl : aS.view.LoadsAt (Rect.unit (s := S768x384) off S192x384.size inb).toLoadRect}
    {k : Vec F S192x384 .f32 → Prog (TpuEff nD τ sig (Elt F) Λ₀ .tc) α} :
    (((c : Thread nD τ).loc cc0_stg0_0) ↦{fullShare} lhs m c : sProp 𝕄)
      ⊢ iprop(((((c : Thread nD τ).loc cc0_stg0_0) ↦{fullShare} lhs m c) -∗ runs c (k (lhsQ m c q)) Q)
        -∗ runs c (.op (.load aS (Rect.unit (s := S768x384) off S192x384.size inb).toLoadRect hl) k) Q) := by
  subst h
  iintro H Hk
  iapply (wp_load_rect 𝒱₀ (c : Thread nD τ) none Set.univ (m := aS) (r := rowRectA q) (S := Finset.univ) (q := fullShare) (f := lhs m c) (Finset.subset_univ _)) $$ H
  iintro H
  iapply Hk $$ H

/-- The right block loaded whole; -/
theorem rhs_load (c : Dev nD) {inb : ∀ a, (![0, 0] : Fin 2 → ℕ) a + S384x768.size a ≤ S384x768.size a}
    {hl : bS.view.LoadsAt (Rect.unit (s := S384x768) ![0, 0] S384x768.size inb).toLoadRect}
    {k : Vec F S384x768 .f32 → Prog (TpuEff nD τ sig (Elt F) Λ₀ .tc) α} {X : Vec F S384x768 .f32} :
    (((c : Thread nD τ).loc cc0_stg1_0) ↦{fullShare} X : sProp 𝕄)
      ⊢ iprop(((((c : Thread nD τ).loc cc0_stg1_0) ↦{fullShare} X) -∗ runs c (k X) Q)
        -∗ runs c (.op (.load bS (Rect.unit (s := S384x768) ![0, 0] S384x768.size inb).toLoadRect hl) k) Q) := by
  have e : bS.view.readAt (Elt F) (Rect.unit (s := S384x768) ![0, 0] S384x768.size inb).toLoadRect X = X :=
    Memref.readAt_unit_zero (Elt F) cc0_stg1_0 zeros _ X
  iintro H Hk
  iapply (wp_load 𝒱₀ (c : Thread nD τ) none Set.univ (m := bS) (f := X) (Finset.subset_univ _)) $$ H
  iintro H
  rw [e]
  iapply Hk $$ H

/-- its rounding loaded whole, -/
theorem rhsW_load (c : Dev nD) {inb : ∀ a, (![0, 0] : Fin 2 → ℕ) a + S384x768.size a ≤ S384x768.size a}
    {hl : bM.view.LoadsAt (Rect.unit (s := S384x768) ![0, 0] S384x768.size inb).toLoadRect}
    {k : Vec F S384x768 .bf16 → Prog (TpuEff nD τ sig (Elt F) Λ₀ .tc) α} {X : Vec F S384x768 .bf16} :
    (((c : Thread nD τ).loc cc0_scratch2) ↦{fullShare} X : sProp 𝕄)
      ⊢ iprop(((((c : Thread nD τ).loc cc0_scratch2) ↦{fullShare} X) -∗ runs c (k X) Q)
        -∗ runs c (.op (.load bM (Rect.unit (s := S384x768) ![0, 0] S384x768.size inb).toLoadRect hl) k) Q) := by
  have e : bM.view.readAt (Elt F) (Rect.unit (s := S384x768) ![0, 0] S384x768.size inb).toLoadRect X = X :=
    Memref.readAt_unit_zero (Elt F) cc0_scratch2 zeros _ X
  iintro H Hk
  iapply (wp_load 𝒱₀ (c : Thread nD τ) none Set.univ (m := bM) (f := X) (Finset.subset_univ _)) $$ H
  iintro H
  rw [e]
  iapply Hk $$ H

/-- and stored whole. -/
theorem rhsW_store (c : Dev nD) {inb : ∀ a, (![0, 0] : Fin 2 → ℕ) a + S384x768.size a ≤ S384x768.size a} {w : Vec F S384x768 .bf16}
    {hx : (bM.access (Rect.unit (s := S384x768) ![0, 0] S384x768.size inb)).Stores Finset.univ}
    {hm : (Finset.univ : Finset (Rect.unit (s := S384x768) ![0, 0] S384x768.size inb).shape.Idx) = Finset.univ
      ∨ ∀ a, (Rect.unit (s := S384x768) ![0, 0] S384x768.size inb).stride a = 1}
    {k : PUnit → Prog (TpuEff nD τ sig (Elt F) Λ₀ .tc) α} {X : Vec F S384x768 .bf16} :
    (((c : Thread nD τ).loc cc0_scratch2) ↦{fullShare} X : sProp 𝕄)
      ⊢ iprop(((((c : Thread nD τ).loc cc0_scratch2) ↦{fullShare} w) -∗ runs c (k ⟨⟩) Q)
        -∗ runs c (.op (.store bM (Rect.unit (s := S384x768) ![0, 0] S384x768.size inb) w Finset.univ hx hm) k) Q) := by
  have e : (bM.access (Rect.unit (s := S384x768) ![0, 0] S384x768.size inb)).write (Elt F) X w Finset.univ = w :=
    Memref.write_access_unit_zero_univ (Elt F) cc0_scratch2 zeros _ X w
  iintro H Hk
  iapply (wp_store 𝒱₀ (c : Thread nD τ) none Set.univ (m := bM) (r := Rect.unit (s := S384x768) ![0, 0] S384x768.size inb)
    (Mk := Finset.univ) (f := X) (Finset.subset_univ _)) $$ H
  iintro H
  rw [e]
  iapply Hk $$ H

/-! ## Quarters of the working matrix -/

section Quarter

variable (c : Dev nD) (q : Fin 4) {off : Fin 2 → ℕ} (h : off = rowOff q) {inb : ∀ a, off a + S192x768.size a ≤ S768x768.size a}

include h in
/-- A quarter loaded, -/
theorem rows_load {hl : wM.view.LoadsAt (Rect.unit (s := S768x768) off S192x768.size inb).toLoadRect}
    {k : Vec F S192x768 .bf16 → Prog (TpuEff nD τ sig (Elt F) Λ₀ .tc) α} {π : PosShare TreeShare} {X : Vec F S192x768 .bf16} :
    rows c q π X ⊢ iprop((rows c q π X -∗ runs c (k X) Q)
      -∗ runs c (.op (.load wM (Rect.unit (s := S768x768) off S192x768.size inb).toLoadRect hl) k) Q) := by
  subst h; exact held_load c

include h in
/-- and stored. -/
theorem rows_store {w : Vec F S192x768 .bf16} {hx : (wM.access (Rect.unit (s := S768x768) off S192x768.size inb)).Stores Finset.univ}
    {hm : (Finset.univ : Finset (Rect.unit (s := S768x768) off S192x768.size inb).shape.Idx) = Finset.univ
      ∨ ∀ a, (Rect.unit (s := S768x768) off S192x768.size inb).stride a = 1}
    {k : PUnit → Prog (TpuEff nD τ sig (Elt F) Λ₀ .tc) α} {X : Vec F S192x768 .bf16} :
    rows c q fullShare X ⊢ iprop((rows c q fullShare w -∗ runs c (k ⟨⟩) Q)
      -∗ runs c (.op (.store wM (Rect.unit (s := S768x768) off S192x768.size inb) w Finset.univ hx hm) k) Q) := by
  subst h; exact held_store c

/-- Device `c` holds its quarter `q` of the result at `X`. -/
def outRows (X : Vec F S192x768 .f32) : sProp 𝕄 := held c (oS.access (rowRect q)) fullShare X

include h in
/-- A quarter of the result loaded, -/
theorem out_load {hl : oS.view.LoadsAt (Rect.unit (s := S768x768) off S192x768.size inb).toLoadRect}
    {k : Vec F S192x768 .f32 → Prog (TpuEff nD τ sig (Elt F) Λ₀ .tc) α} {X : Vec F S192x768 .f32} :
    outRows c q X ⊢ iprop((outRows c q X -∗ runs c (k X) Q)
      -∗ runs c (.op (.load oS (Rect.unit (s := S768x768) off S192x768.size inb).toLoadRect hl) k) Q) := by
  subst h; exact held_load c

include h in
/-- and stored. -/
theorem out_store {w : Vec F S192x768 .f32} {hx : (oS.access (Rect.unit (s := S768x768) off S192x768.size inb)).Stores Finset.univ}
    {hm : (Finset.univ : Finset (Rect.unit (s := S768x768) off S192x768.size inb).shape.Idx) = Finset.univ
      ∨ ∀ a, (Rect.unit (s := S768x768) off S192x768.size inb).stride a = 1}
    {k : PUnit → Prog (TpuEff nD τ sig (Elt F) Λ₀ .tc) α} {X : Vec F S192x768 .f32} :
    outRows c q X ⊢ iprop((outRows c q w -∗ runs c (k ⟨⟩) Q)
      -∗ runs c (.op (.store oS (Rect.unit (s := S768x768) off S192x768.size inb) w Finset.univ hx hm) k) Q) := by
  subst h; exact held_store c

end Quarter

/-- A landing slot loaded: what comes reads, as a matrix, as the slot is held at. -/
theorem slot_load (c : Dev nD) (i : Fin 4) {off : Fin 3 → ℕ} (h : off = slotOff i)
    {inb : ∀ a, off a + S1x192x768.size a ≤ S4x192x768.size a}
    {hl : cM.view.LoadsAt (Rect.unit (s := S4x192x768) off S1x192x768.size inb).toLoadRect}
    {k : Vec F S1x192x768 .bf16 → Prog (TpuEff nD τ sig (Elt F) Λ₀ .tc) α} {X : Vec F S192x768 .bf16} :
    slot c i X ⊢ iprop((∀ v, ⌜shapeCast S192x768 v shapeCasts_S1x192x768_S192x768 = X⌝ -∗ slot c i X -∗ runs c (k v) Q)
      -∗ runs c (.op (.load cM (Rect.unit (s := S4x192x768) off S1x192x768.size inb).toLoadRect hl) k) Q) := by
  subst h
  exact held_load_recount c _ shapeCasts_S1x192x768_S192x768

/-! ## The three runs of memory operations -/

/-- A quarter of the device's own product: a quarter of the left block and the rounded right block loaded, their product
    stored. -/
theorem multiply_step (c : Dev nD) (q : Fin 4) {o o' : Fin 2 → ℕ} (h : o = rowOff q) (h' : o' = rowOff q)
    {ia : ∀ a, o a + S192x384.size a ≤ S768x384.size a} {iw : ∀ a, o' a + S192x768.size a ≤ S768x768.size a}
    {ib : ∀ a, (![0, 0] : Fin 2 → ℕ) a + S384x768.size a ≤ S384x768.size a}
    {pay : Vec F S192x384 .f32 → Vec F S384x768 .bf16 → Vec F S192x768 .bf16} (hpay : pay = k0_pay4)
    {ha : aS.view.LoadsAt (Rect.unit (s := S768x384) o S192x384.size ia).toLoadRect}
    {hb : bM.view.LoadsAt (Rect.unit (s := S384x768) ![0, 0] S384x768.size ib).toLoadRect}
    {hw : wM.view.LoadsAt (Rect.unit (s := S768x768) o' S192x768.size iw).toLoadRect}
    {hx : (wM.access (Rect.unit (s := S768x768) o' S192x768.size iw)).Stores Finset.univ}
    {hm : (Finset.univ : Finset (Rect.unit (s := S768x768) o' S192x768.size iw).shape.Idx) = Finset.univ
      ∨ ∀ a, (Rect.unit (s := S768x768) o' S192x768.size iw).stride a = 1}
    {k : PUnit → Prog (TpuEff nD τ sig (Elt F) Λ₀ .tc) α} :
    iprop((((c : Thread nD τ).loc cc0_stg0_0) ↦{fullShare} lhs m c) ∗ (((c : Thread nD τ).loc cc0_scratch2) ↦{fullShare} rhsW m c)
        ∗ anyRows c q)
      ⊢ iprop((((((c : Thread nD τ).loc cc0_stg0_0) ↦{fullShare} lhs m c) ∗ (((c : Thread nD τ).loc cc0_scratch2) ↦{fullShare} rhsW m c)
          ∗ rows c q fullShare (part m c q)) -∗ runs c (k ⟨⟩) Q)
        -∗ runs c (.op (.load aS (Rect.unit (s := S768x384) o S192x384.size ia).toLoadRect ha) fun va =>
          .op (.load bM (Rect.unit (s := S384x768) ![0, 0] S384x768.size ib).toLoadRect hb) fun vb =>
          .op (.load wM (Rect.unit (s := S768x768) o' S192x768.size iw).toLoadRect hw) fun _ =>
          .op (.store wM (Rect.unit (s := S768x768) o' S192x768.size iw) (pay va vb) Finset.univ hx hm) k) Q) := by
  subst hpay
  unfold anyRows part
  iintro ⟨Ha, Hb, ⟨%X, Hw⟩⟩ Hk
  iapply (lhs_load m c q h) $$ Ha; iintro Ha
  iapply (rhsW_load c) $$ Hb; iintro Hb
  iapply (rows_load c q h') $$ Hw; iintro Hw
  iapply (rows_store c q h') $$ Hw; iintro Hw
  iapply Hk
  isplitl [Ha]; · iexact Ha
  isplitl [Hb]; · iexact Hb
  iexact Hw

/-- What landed in slot `i` added to a quarter. -/
theorem add_step (c : Dev nD) (q i : Fin 4) {o : Fin 2 → ℕ} (h : o = rowOff q) {o' : Fin 3 → ℕ} (h' : o' = slotOff i)
    {iw : ∀ a, o a + S192x768.size a ≤ S768x768.size a} {ic : ∀ a, o' a + S1x192x768.size a ≤ S4x192x768.size a}
    {pay : Vec F S192x768 .bf16 → Vec F S1x192x768 .bf16 → Vec F S192x768 .bf16}
    (hpay : ∀ x v, pay x v = plus x (shapeCast S192x768 v shapeCasts_S1x192x768_S192x768))
    {hw hw' : wM.view.LoadsAt (Rect.unit (s := S768x768) o S192x768.size iw).toLoadRect}
    {hc : cM.view.LoadsAt (Rect.unit (s := S4x192x768) o' S1x192x768.size ic).toLoadRect}
    {hx : (wM.access (Rect.unit (s := S768x768) o S192x768.size iw)).Stores Finset.univ}
    {hm : (Finset.univ : Finset (Rect.unit (s := S768x768) o S192x768.size iw).shape.Idx) = Finset.univ
      ∨ ∀ a, (Rect.unit (s := S768x768) o S192x768.size iw).stride a = 1}
    {k : PUnit → Prog (TpuEff nD τ sig (Elt F) Λ₀ .tc) α} {X Y : Vec F S192x768 .bf16} :
    iprop(rows c q fullShare X ∗ slot c i Y)
      ⊢ iprop(((rows c q fullShare (plus X Y) ∗ anySlot c i) -∗ runs c (k ⟨⟩) Q)
        -∗ runs c (.op (.load wM (Rect.unit (s := S768x768) o S192x768.size iw).toLoadRect hw) fun x =>
          .op (.load cM (Rect.unit (s := S4x192x768) o' S1x192x768.size ic).toLoadRect hc) fun v =>
          .op (.load wM (Rect.unit (s := S768x768) o S192x768.size iw).toLoadRect hw') fun _ =>
          .op (.store wM (Rect.unit (s := S768x768) o S192x768.size iw) (pay x v) Finset.univ hx hm) k) Q) := by
  iintro ⟨Hw, Hc⟩ Hk
  iapply (rows_load c q h) $$ Hw; iintro Hw
  iapply (slot_load c i h') $$ Hc; iintro %v %hv Hc
  subst hv
  iapply (rows_load c q h) $$ Hw; iintro Hw
  iapply (rows_store c q h) $$ Hw; iintro Hw
  rw [hpay]
  iapply Hk
  isplitl [Hw]; · iexact Hw
  unfold anySlot
  iexists _; iexact Hc

/-- A quarter widened into the result. -/
theorem emit_step (c : Dev nD) (q : Fin 4) {o o' : Fin 2 → ℕ} (h : o = rowOff q) (h' : o' = rowOff q)
    {iw : ∀ a, o a + S192x768.size a ≤ S768x768.size a} {io : ∀ a, o' a + S192x768.size a ≤ S768x768.size a}
    {pay : Vec F S192x768 .bf16 → Vec F S192x768 .f32} (hpay : pay = k0_pay11)
    {hw : wM.view.LoadsAt (Rect.unit (s := S768x768) o S192x768.size iw).toLoadRect}
    {ho : oS.view.LoadsAt (Rect.unit (s := S768x768) o' S192x768.size io).toLoadRect}
    {hx : (oS.access (Rect.unit (s := S768x768) o' S192x768.size io)).Stores Finset.univ}
    {hm : (Finset.univ : Finset (Rect.unit (s := S768x768) o' S192x768.size io).shape.Idx) = Finset.univ
      ∨ ∀ a, (Rect.unit (s := S768x768) o' S192x768.size io).stride a = 1}
    {k : PUnit → Prog (TpuEff nD τ sig (Elt F) Λ₀ .tc) α} {π : PosShare TreeShare} {X : Vec F S192x768 .bf16} :
    iprop(rows c q π X ∗ ∃ Y, outRows c q Y)
      ⊢ iprop(((rows c q π X ∗ outRows c q (k0_pay11 X)) -∗ runs c (k ⟨⟩) Q)
        -∗ runs c (.op (.load wM (Rect.unit (s := S768x768) o S192x768.size iw).toLoadRect hw) fun x =>
          .op (.load oS (Rect.unit (s := S768x768) o' S192x768.size io).toLoadRect ho) fun _ =>
          .op (.store oS (Rect.unit (s := S768x768) o' S192x768.size io) (pay x) Finset.univ hx hm) k) Q) := by
  subst hpay
  iintro ⟨Hw, ⟨%Y, Ho⟩⟩ Hk
  iapply (rows_load c q h) $$ Hw; iintro Hw
  iapply (out_load c q h') $$ Ho; iintro Ho
  iapply (out_store c q h') $$ Ho; iintro Ho
  iapply Hk
  isplitl [Hw]; · iexact Hw
  iexact Ho

/-! ## Copies -/

omit [FloatOps F] in
/-- A slot lent is a destination, and holds what lands; -/
theorem slot_lent {n : Dev nD} {j : Fin 4} {v : View sig .tc .vmem S192x768 .bf16} (hv : v = slotView j) :
    (anySlot n j : sProp 𝕄) ⊢ iprop(∃ X, held n v fullShare X) := by subst hv; unfold anySlot slot; exact Entails.refl _
omit [FloatOps F] in
theorem slot_landed {n : Dev nD} {j : Fin 4} {i : Fin 6} (hj : i.val = j.val) {v : View sig .tc .vmem S192x768 .bf16} (hv : v = slotView j)
    (X : Vec F S192x768 .bf16) : held n v fullShare X ⊢ (landed n i X : sProp 𝕄) := by
  obtain ⟨i, hi⟩ := i; obtain ⟨j, hj'⟩ := j; dsimp only at hj; subst hj hv
  unfold landed; rw [dif_pos hj']; unfold slot; exact Entails.refl _
omit [FloatOps F] in
/-- so is a quarter lent. -/
theorem rows_lent {n : Dev nD} {q : Fin 4} {v : View sig .tc .vmem S192x768 .bf16} (hv : v = rowView q) :
    (anyRows n q : sProp 𝕄) ⊢ iprop(∃ X, held n v fullShare X) := by subst hv; unfold anyRows rows; exact Entails.refl _
omit [FloatOps F] in
theorem rows_landed {c : Dev nD} {i : Fin 6} (hi : 4 ≤ i.val) {v : View sig .tc .vmem S192x768 .bf16} (hv : v = rowView (srcQ i c))
    (X : Vec F S192x768 .bf16) : held (peer i c) v fullShare X ⊢ (landed (peer i c) i X : sProp 𝕄) := by
  subst hv
  unfold landed; rw [dif_neg (by omega), peer_peer]; unfold rows; exact Entails.refl _

/-- Copy `i` of device `c` is started. The source leaves until it is waited for; the destination, which the receiver had
    lent, goes back to it with the landing, and with it `extra`. -/
theorem copy_step (K : Dev nD × Fin 13 → ℕ) (c n : Dev nD) (i : Fin 6) (hn : n = peer i c) {src dst : Memref sig .tc .vmem S192x768 .bf16}
    {sS sD : DmaSem sig} (hS : sS = snd i) (hD : sD = rcv i) (hsrc : src.view = rowView (srcQ i c)) (hcr : dst.view.dmaCredit = N)
    {P : sProp (MT nD τ sig Unit (Elt F) ℕ UU ℕ)} (hP : P ⊢ iprop(∃ X, held (peer i c) dst.view fullShare X))
    (hland : ∀ X, held (peer i c) dst.view fullShare X ⊢ (landed (peer i c) i X : sProp 𝕄))
    {hsc : (dst : Memref sig (Dev.tc n : Thread nD τ).2.kind .vmem S192x768 .bf16).view.ref.isScScratch = false}
    {hws : src.view.WordExact} {hwd : dst.view.WordExact}
    {ht : DmaTarget.Typed .vmem (.dma sD)
      (.remote (Dev.tc n : Thread nD τ) (dst : Memref sig (Dev.tc n : Thread nD τ).2.kind .vmem S192x768 .bf16) (.dma sS) hsc)}
    {k : PUnit → Prog (TpuEff nD τ sig (Elt F) Λ₀ .tc) α} (O : CellTallies nD τ sig Unit) :
    iprop(world m K ∗ sndPay m c i ∗ P ∗ extra (peer i c) i ∗ debt c (O + due c i)
        ∗ dutyTok EX (sndCell c i) 0 false ∗ dutyTok EX (rcvCell (peer i c) i) 0 false)
      ⊢ iprop(((cred (tallyAt (sndCell c i) () N) ∗ debt c O) -∗ runs c (k ⟨⟩) Q)
        -∗ runs c (.op (.enqueueDma src (.remote (Dev.tc n : Thread nD τ) dst (.dma sS) hsc) (.dma sD) hws hwd ht) k) Q) := by
  subst hn hS hD
  unfold sndPay rows debt
  rw [← hsrc]
  unfold held at hP ⊢
  iintro ⟨#HK, ⟨%fs, %hfs, Hs⟩, HP, He, ⟨%W, HO⟩, Hts, Htr⟩ Hk
  ihave HP' := hP $$ HP
  icases HP' with ⟨%X, %fd, -, Hd⟩
  iapply (Rounds.wp_send_pointsTo_with 𝒱₀ EX (rd m) (c : Thread nD τ) none (c' := (peer i c : Thread nD τ)) (sem := .dma (rcv i)) (sS := .dma (snd i)) (κ₁ := K (c, kS i)) (κ₂ := K (peer i c, kR i))
    (r₁ := 0) (r₂ := 0) (d₁ := false) (d₂ := false) (src := src) (dst := dst) (fs := fs) (fd := fd) (q := shareOf i) (F := extra (peer i c) i)
    (by rw [duties_snd]; exact Finset.mem_singleton_self _) (by rw [duties_rcv]; exact Finset.mem_singleton_self _)
    () () N hcr rfl rfl O rfl (W := W)
    (by
      rw [payload_snd]; unfold sndPay rows held
      rw [← hsrc]
      iintro H; iexists fs; isplitr
      · ipureintro; exact hfs
      iexact H)
    (by
      rw [payload_rcv, hfs]; unfold rcvPay
      rw [peer_peer]
      exact sep_mono_left ((held_landed (peer i c) dst.view fd _).trans (hland _)))) $$ [Hs Hd He HO Hts Htr]
  · isplitr; · iapply (world_inv_snd m K c i); iexact HK
    isplitr; · iapply (world_inv_rcv m K (peer i c) i); iexact HK
    isplitl [Hs]; · iexact Hs
    isplitl [Hd He]
    · isplitl [Hd] <;> iassumption
    isplitl [HO]; · iexact HO
    isplitl [Hts]; · iexact Hts
    isplitr; · iapply (world_reached_snd m K c i); iexact HK
    isplitl [Htr]; · iexact Htr
    iapply (world_reached_rcv m K (peer i c) i); iexact HK
  iintro ⟨Hc, HO⟩
  iapply Hk
  isplitl [Hc]; · iexact Hc
  iexists W; iexact HO

/-- A wait for all a cell of the kernel's own is to receive: its payload comes, and the cell is done with. -/
theorem await_step (K : Dev nD × Fin 13 → ℕ) (c : Dev nD) (k₀ : Fin 13) {s : DmaSem sig} (hk : csem k₀ = .dma s) (hs : 3 ≤ s.val)
    {src dst : Memref sig .tc .vmem S192x768 .bf16} (hcr : dst.view.dmaCredit = N) {hws : src.view.WordExact} {hwd : dst.view.WordExact}
    {k : PUnit → Prog (TpuEff nD τ sig (Elt F) Λ₀ .tc) α} {O : CellTallies nD τ sig Unit}
    (hO : (levAts L lv : sProp 𝕄) ⊢ MayWait (c : Thread nD τ) (.dma s) () O) :
    iprop(world m K ∗ cred (tallyAt ((c : Thread nD τ), .dma s) () N) ∗ debt c O ∗ atPos EX (kcell (c, k₀)) 0 ∅ 0)
      ⊢ iprop(((debt c O ∗ semVal (kcell (c, k₀)) 0 ∗ dmaPay m c s) -∗ runs c (k ⟨⟩) Q)
        -∗ runs c (.op (.waitDma2 s src dst hws hwd) k) Q) := by
  have hc : kcell (c, k₀) = ((c : Thread nD τ), SemLoc.dma s) := congrArg (Prod.mk (c : Thread nD τ)) hk
  have hd : (rd m).duties ((c : Thread nD τ), .dma s) 0 = {false} := by
    dsimp only [rd]; rw [if_pos ⟨rfl, rfl⟩]; exact if_pos hs
  have hp : bigSep ((rd m).duties ((c : Thread nD τ), .dma s) 0 \ ∅) (fun d => (rd m).payload ((c : Thread nD τ), .dma s) 0 d)
      = dmaPay m c s := by rw [Finset.sdiff_empty, hd, bigSep_singleton]; rfl
  rw [hc]
  unfold debt
  iintro ⟨#HK, Hc, ⟨%W, HO⟩, Hat⟩ Hk
  iapply (Rounds.wp_wait_rest_token 𝒱₀ EX (rd m) (c : Thread nD τ) none (κ := K (c, k₀))
      (wpE_waitDma2_eq 𝒱₀ (c : Thread nD τ) none Set.univ) (Set.mem_univ _) () (O := O) (W := W) (R := 0) (m := 0) (T := ∅)
      (by
        unfold Schedule.expect Schedule.amountOf
        rw [hd, Finset.sum_singleton, hcr]
        exact Nat.zero_add _)) $$ [Hc HO Hat]
  · isplitr; · rw [← hc]; iapply (world_inv m K (c, k₀)); iexact HK
    isplitl [Hc]; · rw [hcr]; iexact Hc
    isplitl [HO]; · iexact HO
    isplitr; · iapply hO; iapply (world_levels m K); iexact HK
    iexact Hat
  iintro ⟨HO, Hat, -, Hp⟩
  imod (Rounds.cell_close EX (rd m) (g := ((c : Thread nD τ), .dma s)) (κ := K (c, k₀)) (Set.mem_univ _) (fun h => h) (R := 0 + 1) (duties_later m _)) $$ [Hat] with Hz
  · isplitr; · rw [← hc]; iapply (world_inv m K (c, k₀)); iexact HK
    iexact Hat
  iapply Hk
  isplitl [HO]; · iexists _; iexact HO
  isplitl [Hz]; · iexact Hz
  iapply (Entails.of_eq hp) $$ Hp

/-- A wait for a departure brings the source back; -/
theorem await_snd (K : Dev nD × Fin 13 → ℕ) (c : Dev nD) (i : Fin 6) {s : DmaSem sig} (hs : s = snd i)
    {src dst : Memref sig .tc .vmem S192x768 .bf16} (hcr : dst.view.dmaCredit = N) {hws : src.view.WordExact} {hwd : dst.view.WordExact}
    {k : PUnit → Prog (TpuEff nD τ sig (Elt F) Λ₀ .tc) α} {n : ℕ} (hn : n ≤ 6) :
    iprop(world m K ∗ cred (tallyAt (sndCell c i) () N) ∗ debt c (owing c n) ∗ atPos EX (kcell (c, kS i)) 0 ∅ 0)
      ⊢ iprop(((debt c (owing c n) ∗ semVal (kcell (c, kS i)) 0 ∗ sndPay m c i) -∗ runs c (k ⟨⟩) Q)
        -∗ runs c (.op (.waitDma2 s src dst hws hwd) k) Q) := by
  subst hs
  rw [← payload_snd m c i false]
  refine await_step m K c (kS i) (csem_snd i) (Nat.le_add_right 3 _) hcr (mayWait_owing hn ?_)
  show (if 3 + i.val < 9 then 0 else _) < _
  rw [if_pos (by omega)]; omega

/-- a wait for an arrival brings what landed. -/
theorem await_rcv (K : Dev nD × Fin 13 → ℕ) (c : Dev nD) (i : Fin 6) {s : DmaSem sig} (hs : s = rcv i)
    {src dst : Memref sig .tc .vmem S192x768 .bf16} (hcr : dst.view.dmaCredit = N) {hws : src.view.WordExact} {hwd : dst.view.WordExact}
    {k : PUnit → Prog (TpuEff nD τ sig (Elt F) Λ₀ .tc) α} {n : ℕ} (hn : n ≤ 6) (hi : i.val / 2 + 2 < (6 - n) / 2 + 2) :
    iprop(world m K ∗ cred (tallyAt (rcvCell c i) () N) ∗ debt c (owing c n) ∗ atPos EX (kcell (c, kR i)) 0 ∅ 0)
      ⊢ iprop(((debt c (owing c n) ∗ semVal (kcell (c, kR i)) 0 ∗ rcvPay m c i) -∗ runs c (k ⟨⟩) Q)
        -∗ runs c (.op (.waitDma2 s src dst hws hwd) k) Q) := by
  subst hs
  rw [← payload_rcv m c i false]
  exact await_step m K c (kR i) (csem_rcv i) (by show 3 ≤ 9 + i.val; omega) hcr (mayWait_owing hn (by rw [lv_rcv]; exact hi))

end Cert.Exchange

end
-- ==== Proof.Parts.lean ====
/-
# The body, part by part

The printed body is a sequence of parts. Each is run here from what it needs to what it leaves.
-/
module

public import proofs.«01_k».proof.Proof.Steps

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-- Device `c` holds its staged left block; its staged right block; and the rounding of that. -/
def lhsHeld (c : Dev nD) : sProp 𝕄 := ((c : Thread nD τ).loc cc0_stg0_0) ↦{fullShare} lhs m c
def rhsHeld (c : Dev nD) : sProp 𝕄 := ((c : Thread nD τ).loc cc0_stg1_0) ↦{fullShare} rhs m c
def rhsWHeld (c : Dev nD) : sProp 𝕄 := ((c : Thread nD τ).loc cc0_scratch2) ↦{fullShare} rhsW m c

/-- What starting copy `i` takes beside the buffers: its two tokens. -/
abbrev tickets (c : Dev nD) (i : Fin 6) : sProp 𝕄 :=
  iprop(dutyTok EX (sndCell c i) 0 false ∗ dutyTok EX (rcvCell (peer i c) i) 0 false)
/-- What waiting for copy `i`'s departure takes once it is under way, and what waiting for its arrival does. -/
abbrev sndPlace (c : Dev nD) (i : Fin 6) : sProp 𝕄 := atPos EX (kcell (c, kS i)) 0 ∅ 0
abbrev sndWait (c : Dev nD) (i : Fin 6) : sProp 𝕄 := iprop(cred (tallyAt (sndCell c i) () N))
abbrev rcvWait (c : Dev nD) (i : Fin 6) : sProp 𝕄 := iprop(cred (tallyAt (rcvCell c i) () N) ∗ atPos EX (kcell (c, kR i)) 0 ∅ 0)
/-- A cell of device `c`'s done with. -/
def done (c : Dev nD) (k : Fin 13) : sProp 𝕄 := semVal (kcell (c, k)) 0

omit [FloatOps F] in
theorem anyRows_open (c : Dev nD) (q : Fin 4) : anyRows c q ⊢ (iprop(∃ X, rows c q fullShare X) : sProp 𝕄) := Entails.refl _
omit [FloatOps F] in
theorem no_extra {c : Dev nD} {i : Fin 6} (h2 : i ≠ 2) (h3 : i ≠ 3) : (iprop(emp) : sProp 𝕄) ⊢ extra c i := by
  unfold extra; rw [if_neg h2, if_neg h3]

/-! What each copy's source and landing are, spelt out. -/

theorem sndPay_1 (c : Dev nD) : sndPay m c 1 = rows c (oy c) fullShare (part m c (oy c)) := rfl
theorem sndPay_0 (c : Dev nD) : sndPay m c 0 = rows c (ox c) fullShare (part m c (ox c)) := rfl
theorem sndPay_2 (c : Dev nD) : sndPay m c 2 = rows c (kx c) fullShare (oneX m c) := rfl
theorem sndPay_3 (c : Dev nD) : sndPay m c 3 = rows c (ky c) fullShare (oneY m c) := rfl
theorem sndPay_4 (c : Dev nD) : sndPay m c 4 = rows c (kx c) fullShare.left (twoX m c) := rfl
theorem sndPay_5 (c : Dev nD) : sndPay m c 5 = rows c (ky c) fullShare.left (twoY m c) := rfl
theorem rcvPay_0 (c : Dev nD) : rcvPay m c 0 = iprop(slot c 0 (part m (px c) (ox (px c))) ∗ extra c 0) := rfl
theorem rcvPay_1 (c : Dev nD) : rcvPay m c 1 = iprop(slot c 1 (part m (py c) (oy (py c))) ∗ extra c 1) := rfl
theorem rcvPay_2 (c : Dev nD) : rcvPay m c 2 = iprop(slot c 2 (oneX m (py c)) ∗ anyRows (py c) (ky c)) := by
  rw [← oy_py]; rfl
theorem rcvPay_3 (c : Dev nD) : rcvPay m c 3 = iprop(slot c 3 (oneY m (px c)) ∗ anyRows (px c) (kx c)) := by
  rw [← ox_px]; rfl
theorem rcvPay_4 (c : Dev nD) : rcvPay m c 4 = iprop(rows c (ox c) fullShare (twoX m (px c)) ∗ extra c 4) := by
  rw [ox_eq]; rfl
theorem rcvPay_5 (c : Dev nD) : rcvPay m c 5 = iprop(rows c (oy c) fullShare (twoY m (py c)) ∗ extra c 5) := by
  rw [oy_eq]; rfl

/-- The first part tells both partners that the slots they will send into are free, waits for both to have told the
    same, rounds the right block and loads a quarter of the left one. -/
theorem part1_run (c : Dev nD)
    (Q : (Σ' (d0 : Dev nD) (v3 : BitVec 32) (v4 : BitVec 32) (v8 : BitVec 32) (v9 : BitVec 32) (v11 : BitVec 32) (v12 : BitVec 32),
      FVec F S192x384 .f32) → sProp 𝕄) :
    iprop(world m K ∗ debt c (O₀ c) ∗ dutyTok EX (barCell (px c)) 0 false ∗ dutyTok EX (barCell (py c)) 0 true
        ∗ anySlot c 0 ∗ anySlot c 1 ∗ anySlot c 2 ∗ anySlot c 3 ∗ cred (tallyAt (barCell c) () 2) ∗ atPos EX (kcell (c, 0)) 0 ∅ 0
        ∗ lhsHeld m c ∗ rhsHeld m c ∗ ∃ X : Vec F S384x768 .bf16, ((c : Thread nD τ).loc cc0_scratch2) ↦{fullShare} X)
      ⊢ iprop((∀ v3 v4 v8 v9 v11 v12, (debt c (owing c 6) ∗ done c 0 ∗ anySlot (px c) 0 ∗ anySlot (py c) 1 ∗ anySlot (py c) 2 ∗ anySlot (px c) 3
          ∗ lhsHeld m c ∗ rhsHeld m c ∗ rhsWHeld m c) -∗ Q ⟨c, v3, v4, v8, v9, v11, v12, k0_pay2 (lhsQ m c (ox c))⟩)
        -∗ runs c (k0_part1 aS (Memref.isWhole_whole _) bS (Memref.isWhole_whole _) oS (Memref.isWhole_whole _) wM (Memref.isWhole_whole _)
            cM (Memref.isWhole_whole _) bM (Memref.isWhole_whole _) cc0_scratch3 cc0_scratch4) Q) := by
  simp only [k0_part1_eq_skeleton]; unfold k0_part1_skel
  simp only [semSignalWord, semWaitWord, Prog.lift, Prog.bind_op, Prog.bind_ret, Prog.pure_eq_ret, runs, wp_deviceId]
  simp only [dev1 c, dev2 c]
  unfold debt done lhsHeld rhsHeld rhsWHeld
  iintro ⟨#HK, ⟨%W, HO⟩, Htx, Hty, Hs0, Hs1, Hs2, Hs3, Hc, Hat, Ha, Hb, ⟨%X, Hw⟩⟩ Hk
  -- the signal to `px`
  unfold O₀
  iapply (Rounds.wp_signal 𝒱₀ EX (rd m) (c : Thread nD τ) none (dst := (px c : Thread nD τ)) (κ := K (px c, 0)) (d := false)
      (by rw [duties_bar]; exact Finset.mem_univ _)
      ((show (rd m).amount (barCell (px c)) 0 false = 1 from rfl).trans (by decide)) () (O₁ c) rfl) $$ [HO Htx Hs0 Hs3]
  · isplitr; · iapply (world_inv m K (px c, 0)); iexact HK
    isplitl [HO]; · iexact HO
    isplitl [Htx]; · iexact Htx
    isplitl [Hs0 Hs3]
    · rw [payload_bar]; unfold barPay; rw [if_neg (by decide), px_px]
      isplitl [Hs0] <;> iassumption
    iapply (world_reached m K (px c, 0)); iexact HK
  iintro HO
  -- the signal to `py`
  unfold O₁
  iapply (Rounds.wp_signal 𝒱₀ EX (rd m) (c : Thread nD τ) none (dst := (py c : Thread nD τ)) (κ := K (py c, 0)) (d := true)
      (by rw [duties_bar]; exact Finset.mem_univ _)
      ((show (rd m).amount (barCell (py c)) 0 true = 1 from rfl).trans (by decide)) () (owing c 6) rfl) $$ [HO Hty Hs1 Hs2]
  · isplitr; · iapply (world_inv m K (py c, 0)); iexact HK
    isplitl [HO]; · iexact HO
    isplitl [Hty]; · iexact Hty
    isplitl [Hs1 Hs2]
    · rw [payload_bar]; unfold barPay; rw [if_pos rfl, py_py]
      isplitl [Hs1] <;> iassumption
    iapply (world_reached m K (py c, 0)); iexact HK
  iintro HO
  -- the wait for both
  iapply (Rounds.wp_wait_rest_token 𝒱₀ EX (rd m) (c : Thread nD τ) none (κ := K (c, 0))
      (wpE_semWait_eq 𝒱₀ (c : Thread nD τ) none Set.univ) (Set.mem_univ _) () (O := owing c 6) (W := W) (R := 0) (m := 0) (T := ∅)
      (by rw [expect_bar]; decide)) $$ [Hc HO Hat]
  · isplitr; · iapply (world_inv m K (c, 0)); iexact HK
    isplitl [Hc]; · iexact Hc
    isplitl [HO]; · iexact HO
    isplitr
    · iapply (mayWait_owing (c := c) (sm := .reg barS) (n := 6) le_rfl (show (1 : ℕ) < _ by decide)); iapply (world_levels m K); iexact HK
    iexact Hat
  iintro ⟨HO, Hat, -, Hp⟩
  ihave Hp' := (Entails.of_eq (show bigSep ((rd m).duties (barCell c) 0 \ ∅) (fun d => (rd m).payload (barCell c) 0 d)
      = iprop((anySlot (px c) 0 ∗ anySlot (px c) 3) ∗ anySlot (py c) 1 ∗ anySlot (py c) 2) by
    rw [Finset.sdiff_empty, duties_bar, bigSep_univ_eq_bigSepL [false, true] (by decide) (by decide)]; rfl)) $$ Hp
  icases Hp' with ⟨⟨Hs0, Hs3⟩, Hs1, Hs2⟩
  imod (Rounds.cell_close EX (rd m) (g := barCell c) (κ := K (c, 0)) (Set.mem_univ _) (fun h => h) (R := 0 + 1) (duties_later m _)) $$ [Hat] with Hz
  · isplitr; · iapply (world_inv m K (c, 0)); iexact HK
    iexact Hat
  -- the loads and the store
  iapply (rhs_load c) $$ Hb; iintro Hb
  iapply (rhsW_load c) $$ Hw; iintro Hw
  iapply (rhsW_store c) $$ Hw; iintro Hw
  iapply (lhs_load m c (ox c) (off1 c)) $$ Ha; iintro Ha
  unfold runs
  rw [wp_ret]; imodintro
  iapply Hk
  isplitl [HO]; · iexists _; iexact HO
  isplitl [Hz]; · iexact Hz
  isplitl [Hs0]; · iexact Hs0
  isplitl [Hs1]; · iexact Hs1
  isplitl [Hs2]; · iexact Hs2
  isplitl [Hs3]; · iexact Hs3
  isplitl [Ha]; · iexact Ha
  isplitl [Hb]; · iexact Hb
  iexact Hw

/-- The second part multiplies the two quarters to be sent and starts the first copy. -/
theorem part2_run (c : Dev nD) (v3 v9 v12 : BitVec 32) (Q : PUnit → sProp 𝕄) :
    iprop(world m K ∗ debt c (owing c 6) ∗ tickets c 0 ∗ anySlot (px c) 0 ∗ anyRows c (ox c) ∗ anyRows c (oy c) ∗ lhsHeld m c ∗ rhsWHeld m c)
      ⊢ iprop(((debt c (owing c 5) ∗ sndWait c 0 ∗ rows c (oy c) fullShare (part m c (oy c)) ∗ lhsHeld m c ∗ rhsWHeld m c) -∗ Q ⟨⟩)
        -∗ runs c (k0_part2 aS (Memref.isWhole_whole _) bS (Memref.isWhole_whole _) oS (Memref.isWhole_whole _) wM (Memref.isWhole_whole _)
            cM (Memref.isWhole_whole _) bM (Memref.isWhole_whole _) cc0_scratch3 cc0_scratch4 c v3 v9 v12 (k0_pay2 (lhsQ m c (ox c)))) Q) := by
  simp only [k0_part2_eq_skeleton]; unfold k0_part2_skel
  simp only [Prog.lift, Prog.bind_op, Prog.bind_ret, Prog.pure_eq_ret, runs]
  unfold tickets sndWait lhsHeld rhsWHeld
  iintro ⟨#HK, HO, ⟨Hts, Htr⟩, Hs, Hx, Hy, Ha, Hb⟩ Hk
  ihave Hx' := (anyRows_open c (ox c)) $$ Hx
  icases Hx' with ⟨%X, Hx⟩
  iapply (rhsW_load c) $$ Hb; iintro Hb
  iapply (rows_load c _ (off2 c)) $$ Hx; iintro Hx
  iapply (rows_store c _ (off2 c)) $$ Hx; iintro Hx
  iapply (multiply_step m c (oy c) (off3 c) (off4 c) (pay := k0_pay4) rfl) $$ [Ha Hb Hy]
  · isplitl [Ha]; · iexact Ha
    isplitl [Hb]; · iexact Hb
    iexact Hy
  iintro ⟨Ha, Hb, Hy⟩
  iapply (copy_step m K c _ 0 (dev3 c) rfl rfl (rowView_of _ (off5 c)) rfl (slot_lent (j := 0) rfl) (slot_landed (j := 0) rfl rfl) (owing c 5)) $$ [HO Hts Htr Hs Hx]
  · isplitr; · iexact HK
    isplitl [Hx]; · iapply (Entails.of_eq (show rows c (ox c) fullShare (k0_pay3 (k0_pay2 (lhsQ m c (ox c))) (rhsW m c)) = sndPay m c 0 from rfl)) $$ Hx
    isplitl [Hs]; · iexact Hs
    isplitr; · iapply (no_extra (c := px c) (i := 0) (by decide) (by decide)); iempintro
    isplitl [HO]; · iexact HO
    isplitl [Hts] <;> iassumption
  iintro ⟨Hc, HO⟩
  unfold runs
  rw [wp_ret]; imodintro
  iapply Hk
  isplitl [HO]; · iexact HO
  isplitl [Hc]; · iexact Hc
  isplitl [Hy]; · iexact Hy
  isplitl [Ha] <;> iassumption

omit [FloatOps F] in
theorem lend_2 (c : Dev nD) : anyRows c (oy c) = (extra (py c) 2 : sProp 𝕄) := by
  unfold extra; rw [if_pos rfl, py_py]
omit [FloatOps F] in
theorem lend_3 (c : Dev nD) : anyRows c (ox c) = (extra (px c) 3 : sProp 𝕄) := by
  unfold extra; rw [if_neg (by decide), if_pos rfl, px_px]
omit [FloatOps F] in
/-- A quarter is held in halves, -/
theorem rows_halve (c : Dev nD) (q : Fin 4) (X : Vec F S192x768 .bf16) :
    rows c q fullShare X ⊢ (iprop(rows c q fullShare.left X ∗ rows c q fullShare.right X) : sProp 𝕄) := held_halve c _ X
omit [FloatOps F] in
/-- and of its halves is whole again. -/
theorem rows_join (c : Dev nD) (q : Fin 4) (X Y : Vec F S192x768 .bf16) :
    iprop(rows c q fullShare.left X ∗ rows c q fullShare.right Y) ⊢ (anyRows c q : sProp 𝕄) := by
  unfold anyRows rows
  iintro H
  iexists X
  iapply (held_join c (rowView q) X Y) $$ H

/-- The third part starts the second copy and multiplies the two quarters to be kept. -/
theorem part3_run (c : Dev nD) (v4 v8 v11 : BitVec 32) (Q : PUnit → sProp 𝕄) :
    iprop(world m K ∗ debt c (owing c 5) ∗ tickets c 1 ∗ anySlot (py c) 1 ∗ rows c (oy c) fullShare (part m c (oy c)) ∗ anyRows c (kx c) ∗ anyRows c (ky c)
        ∗ lhsHeld m c ∗ rhsWHeld m c)
      ⊢ iprop(((debt c (owing c 4) ∗ sndWait c 1 ∗ rows c (kx c) fullShare (part m c (kx c)) ∗ rows c (ky c) fullShare (part m c (ky c))
          ∗ lhsHeld m c ∗ rhsWHeld m c) -∗ Q ⟨⟩)
        -∗ runs c (k0_part3 aS (Memref.isWhole_whole _) bS (Memref.isWhole_whole _) oS (Memref.isWhole_whole _) wM (Memref.isWhole_whole _)
            cM (Memref.isWhole_whole _) bM (Memref.isWhole_whole _) cc0_scratch3 cc0_scratch4 c v4 v8 v11) Q) := by
  simp only [k0_part3_eq_skeleton]; unfold k0_part3_skel
  simp only [Prog.lift, Prog.bind_op, Prog.bind_ret, Prog.pure_eq_ret, runs]
  unfold tickets sndWait lhsHeld rhsWHeld
  iintro ⟨#HK, HO, ⟨Ht1s, Ht1r⟩, Hd, Hs, Hx, Hy, Ha, Hb⟩ Hk
  iapply (copy_step m K c _ 1 (dev4 c) rfl rfl (rowView_of _ (off6 c)) rfl (slot_lent (j := 1) rfl) (slot_landed (j := 1) rfl rfl) (owing c 4)) $$ [HO Ht1s Ht1r Hs Hd]
  · isplitr; · iexact HK
    isplitl [Hs]; · iapply (Entails.of_eq (sndPay_1 m c).symm) $$ Hs
    isplitl [Hd]; · iexact Hd
    isplitr; · iapply (no_extra (c := py c) (i := 1) (by decide) (by decide)); iempintro
    isplitl [HO]; · iexact HO
    isplitl [Ht1s] <;> iassumption
  iintro ⟨Hc1, HO⟩
  iapply (multiply_step m c (kx c) (off7 c) (off8 c) (pay := k0_pay5) rfl) $$ [Ha Hb Hx]
  · isplitl [Ha]; · iexact Ha
    isplitl [Hb] <;> iassumption
  iintro ⟨Ha, Hb, Hx⟩
  iapply (multiply_step m c (ky c) (off9 c) (off10 c) (pay := k0_pay6) rfl) $$ [Ha Hb Hy]
  · isplitl [Ha]; · iexact Ha
    isplitl [Hb] <;> iassumption
  iintro ⟨Ha, Hb, Hy⟩
  unfold runs
  rw [wp_ret]; imodintro
  iapply Hk
  isplitl [HO]; · iexact HO
  isplitl [Hc1]; · iexact Hc1
  isplitl [Hx]; · iexact Hx
  isplitl [Hy]; · iexact Hy
  isplitl [Ha]; · iexact Ha
  iexact Hb

/-- The fourth part waits for both copies to have left and for both of the partners' to have come. -/
theorem part4_run (c : Dev nD) (v3 v4 v8 : BitVec 32) (Q : BitVec 32 → sProp 𝕄) :
    iprop(world m K ∗ debt c (owing c 4) ∗ sndWait c 0 ∗ sndPlace c 0 ∗ rcvWait c 0 ∗ sndWait c 1 ∗ sndPlace c 1 ∗ rcvWait c 1)
      ⊢ iprop((∀ v, (debt c (owing c 4) ∗ (done c (kS 0) ∗ done c (kR 0) ∗ done c (kS 1) ∗ done c (kR 1)) ∗ rows c (ox c) fullShare (part m c (ox c))
          ∗ rows c (oy c) fullShare (part m c (oy c)) ∗ slot c 0 (part m (px c) (ox (px c))) ∗ slot c 1 (part m (py c) (oy (py c)))) -∗ Q v)
        -∗ runs c (k0_part4 aS (Memref.isWhole_whole _) bS (Memref.isWhole_whole _) oS (Memref.isWhole_whole _) wM (Memref.isWhole_whole _)
            cM (Memref.isWhole_whole _) bM (Memref.isWhole_whole _) cc0_scratch3 cc0_scratch4 c v3 v4 v8) Q) := by
  simp only [k0_part4_eq_skeleton]; unfold k0_part4_skel
  simp only [Prog.lift, Prog.bind_op, Prog.bind_ret, Prog.pure_eq_ret, runs]
  unfold sndWait sndPlace rcvWait done
  iintro ⟨#HK, HO, Hc0, Hs0, ⟨Hd0, Hr0⟩, Hc1, Hs1, ⟨Hd1, Hr1⟩⟩ Hk
  iapply (await_snd m K c 0 rfl rfl (n := 4) (by decide)) $$ [HO Hc0 Hs0]
  · isplitr; · iexact HK
    isplitl [Hc0]; · iexact Hc0
    isplitl [HO] <;> iassumption
  iintro ⟨HO, Hz0, Hp⟩
  ihave Hp' := (Entails.of_eq (sndPay_0 m c)) $$ Hp
  irename Hp' => Hx
  iapply (await_rcv m K c 0 rfl rfl (n := 4) (by decide) (by decide)) $$ [HO Hd0 Hr0]
  · isplitr; · iexact HK
    isplitl [Hd0]; · iexact Hd0
    isplitl [HO] <;> iassumption
  iintro ⟨HO, Hz1, Hp⟩
  ihave Hp' := (Entails.of_eq (rcvPay_0 m c)) $$ Hp
  icases Hp' with ⟨Hl0, -⟩
  iapply (await_snd m K c 1 rfl rfl (n := 4) (by decide)) $$ [HO Hc1 Hs1]
  · isplitr; · iexact HK
    isplitl [Hc1]; · iexact Hc1
    isplitl [HO] <;> iassumption
  iintro ⟨HO, Hz2, Hp⟩
  ihave Hp' := (Entails.of_eq (sndPay_1 m c)) $$ Hp
  irename Hp' => Hy
  iapply (await_rcv m K c 1 rfl rfl (n := 4) (by decide) (by decide)) $$ [HO Hd1 Hr1]
  · isplitr; · iexact HK
    isplitl [Hd1]; · iexact Hd1
    isplitl [HO] <;> iassumption
  iintro ⟨HO, Hz3, Hp⟩
  ihave Hp' := (Entails.of_eq (rcvPay_1 m c)) $$ Hp
  icases Hp' with ⟨Hl1, -⟩
  unfold runs
  rw [wp_ret]; imodintro
  iapply Hk
  isplitl [HO]; · iexact HO
  isplitl [Hz0 Hz1 Hz2 Hz3]
  · isplitl [Hz0]; · iexact Hz0
    isplitl [Hz1]; · iexact Hz1
    isplitl [Hz2] <;> iassumption
  isplitl [Hx]; · iexact Hx
  isplitl [Hy]; · iexact Hy
  isplitl [Hl0]; · iexact Hl0
  iexact Hl1

/-- The fifth part adds what came to the kept quarters and starts the third copy. -/
theorem part5_run (c : Dev nD) (v3 v4 v8 v11 v120 : BitVec 32) (Q : PUnit → sProp 𝕄) :
    iprop(world m K ∗ debt c (owing c 4) ∗ tickets c 2 ∗ anySlot (py c) 2 ∗ anyRows c (oy c) ∗ rows c (kx c) fullShare (part m c (kx c))
        ∗ rows c (ky c) fullShare (part m c (ky c)) ∗ slot c 0 (part m (px c) (ox (px c))) ∗ slot c 1 (part m (py c) (oy (py c))))
      ⊢ iprop(((debt c (owing c 3) ∗ sndWait c 2 ∗ rows c (ky c) fullShare (oneY m c) ∗ anySlot c 0 ∗ anySlot c 1) -∗ Q ⟨⟩)
        -∗ runs c (k0_part5 aS (Memref.isWhole_whole _) bS (Memref.isWhole_whole _) oS (Memref.isWhole_whole _) wM (Memref.isWhole_whole _)
            cM (Memref.isWhole_whole _) bM (Memref.isWhole_whole _) cc0_scratch3 cc0_scratch4 c v3 v4 v8 v11 v120) Q) := by
  simp only [k0_part5_eq_skeleton]; unfold k0_part5_skel
  simp only [Prog.lift, Prog.bind_op, Prog.bind_ret, Prog.pure_eq_ret, runs]
  unfold tickets sndWait
  iintro ⟨#HK, HO, ⟨Ht2s, Ht2r⟩, Hd, He, Hx, Hy, Hl0, Hl1⟩ Hk
  iapply (add_step c (kx c) 0 (off8 c) rfl (pay := k0_pay7) fun _ _ => rfl) $$ [Hx Hl0]
  · isplitl [Hx] <;> iassumption
  iintro ⟨Hx, Hl0⟩
  iapply (add_step c (ky c) 1 (off10 c) rfl (pay := k0_pay8) fun _ _ => rfl) $$ [Hy Hl1]
  · isplitl [Hy] <;> iassumption
  iintro ⟨Hy, Hl1⟩
  iapply (copy_step m K c _ 2 (dev5 c) rfl rfl (rowView_of _ (off11 c)) rfl (slot_lent (j := 2) rfl) (slot_landed (j := 2) rfl rfl) (owing c 3)) $$ [HO Ht2s Ht2r Hx Hd He]
  · isplitr; · iexact HK
    isplitl [Hx]; · iapply (Entails.of_eq (show rows c (kx c) fullShare (plus (part m c (kx c)) (part m (px c) (ox (px c)))) = sndPay m c 2 from rfl)) $$ Hx
    isplitl [Hd]; · iexact Hd
    isplitl [He]; · iapply (Entails.of_eq (lend_2 c)) $$ He
    isplitl [HO]; · iexact HO
    isplitl [Ht2s] <;> iassumption
  iintro ⟨Hc2, HO⟩
  unfold runs
  rw [wp_ret]; imodintro
  iapply Hk
  isplitl [HO]; · iexact HO
  isplitl [Hc2]; · iexact Hc2
  isplitl [Hy]; · iexact Hy
  isplitl [Hl0]; · iexact Hl0
  iexact Hl1

/-- The sixth part starts the fourth copy, and waits for the third to have left, for its counterpart to have come, and for the
    fourth to have left. -/
theorem part6_run (c : Dev nD) (v3 v4 : BitVec 32) (Q : PUnit → sProp 𝕄) :
    iprop(world m K ∗ debt c (owing c 3) ∗ tickets c 3 ∗ anySlot (px c) 3 ∗ anyRows c (ox c) ∗ rows c (ky c) fullShare (oneY m c) ∗ sndWait c 2 ∗ sndPlace c 2
        ∗ rcvWait c 2 ∗ sndPlace c 3)
      ⊢ iprop(((debt c (owing c 2) ∗ (done c (kS 2) ∗ done c (kR 2) ∗ done c (kS 3)) ∗ rows c (kx c) fullShare (oneX m c)
          ∗ rows c (ky c) fullShare (oneY m c) ∗ slot c 2 (oneX m (py c)) ∗ anyRows (py c) (ky c)) -∗ Q ⟨⟩)
        -∗ runs c (k0_part6 aS (Memref.isWhole_whole _) bS (Memref.isWhole_whole _) oS (Memref.isWhole_whole _) wM (Memref.isWhole_whole _)
            cM (Memref.isWhole_whole _) bM (Memref.isWhole_whole _) cc0_scratch3 cc0_scratch4 c v3 v4) Q) := by
  simp only [k0_part6_eq_skeleton]; unfold k0_part6_skel
  simp only [Prog.lift, Prog.bind_op, Prog.bind_ret, Prog.pure_eq_ret, runs]
  unfold tickets sndWait sndPlace rcvWait done
  iintro ⟨#HK, HO, ⟨Ht3s, Ht3r⟩, Hd, He, Hy, Hc2, Hs2, ⟨Hd2, Hr2⟩, Hs3⟩ Hk
  iapply (copy_step m K c _ 3 (dev6 c) rfl rfl (rowView_of _ (off12 c)) rfl (slot_lent (j := 3) rfl) (slot_landed (j := 3) rfl rfl) (owing c 2)) $$ [HO Ht3s Ht3r Hy Hd He]
  · isplitr; · iexact HK
    isplitl [Hy]; · iapply (Entails.of_eq (sndPay_3 m c).symm) $$ Hy
    isplitl [Hd]; · iexact Hd
    isplitl [He]; · iapply (Entails.of_eq (lend_3 c)) $$ He
    isplitl [HO]; · iexact HO
    isplitl [Ht3s] <;> iassumption
  iintro ⟨Hc3, HO⟩
  iapply (await_snd m K c 2 rfl rfl (n := 2) (by decide)) $$ [HO Hc2 Hs2]
  · isplitr; · iexact HK
    isplitl [Hc2]; · iexact Hc2
    isplitl [HO] <;> iassumption
  iintro ⟨HO, Hz0, Hp⟩
  ihave Hp' := (Entails.of_eq (sndPay_2 m c)) $$ Hp
  irename Hp' => Hx
  iapply (await_rcv m K c 2 rfl rfl (n := 2) (by decide) (by decide)) $$ [HO Hd2 Hr2]
  · isplitr; · iexact HK
    isplitl [Hd2]; · iexact Hd2
    isplitl [HO] <;> iassumption
  iintro ⟨HO, Hz1, Hp⟩
  ihave Hp' := (Entails.of_eq (rcvPay_2 m c)) $$ Hp
  icases Hp' with ⟨Hl, He⟩
  iapply (await_snd m K c 3 rfl rfl (n := 2) (by decide)) $$ [HO Hc3 Hs3]
  · isplitr; · iexact HK
    isplitl [Hc3]; · iexact Hc3
    isplitl [HO] <;> iassumption
  iintro ⟨HO, Hz2, Hp⟩
  ihave Hp' := (Entails.of_eq (sndPay_3 m c)) $$ Hp
  irename Hp' => Hy
  unfold runs
  rw [wp_ret]; imodintro
  iapply Hk
  isplitl [HO]; · iexact HO
  isplitl [Hz0 Hz1 Hz2]
  · isplitl [Hz0]; · iexact Hz0
    isplitl [Hz1] <;> iassumption
  isplitl [Hx]; · iexact Hx
  isplitl [Hy]; · iexact Hy
  isplitl [Hl]; · iexact Hl
  iexact He

/-- The seventh part waits for the fourth copy's counterpart and adds what came to the kept quarters. -/
theorem part7_run (c : Dev nD) (v3 v8 v11 : BitVec 32) (Q : PUnit → sProp 𝕄) :
    iprop(world m K ∗ debt c (owing c 2) ∗ rcvWait c 3 ∗ rows c (kx c) fullShare (oneX m c) ∗ rows c (ky c) fullShare (oneY m c) ∗ slot c 2 (oneX m (py c)))
      ⊢ iprop(((debt c (owing c 2) ∗ done c (kR 3) ∗ rows c (kx c) fullShare (twoX m c) ∗ rows c (ky c) fullShare (twoY m c) ∗ anySlot c 2 ∗ anySlot c 3
          ∗ anyRows (px c) (kx c)) -∗ Q ⟨⟩)
        -∗ runs c (k0_part7 aS (Memref.isWhole_whole _) bS (Memref.isWhole_whole _) oS (Memref.isWhole_whole _) wM (Memref.isWhole_whole _)
            cM (Memref.isWhole_whole _) bM (Memref.isWhole_whole _) cc0_scratch3 cc0_scratch4 c v3 v8 v11) Q) := by
  simp only [k0_part7_eq_skeleton]; unfold k0_part7_skel
  simp only [Prog.lift, Prog.bind_op, Prog.bind_ret, Prog.pure_eq_ret, runs]
  unfold rcvWait done
  iintro ⟨#HK, HO, ⟨Hd3, Hr3⟩, Hx, Hy, Hl2⟩ Hk
  iapply (await_rcv m K c 3 rfl rfl (n := 2) (by decide) (by decide)) $$ [HO Hd3 Hr3]
  · isplitr; · iexact HK
    isplitl [Hd3]; · iexact Hd3
    isplitl [HO] <;> iassumption
  iintro ⟨HO, Hz, Hp⟩
  ihave Hp' := (Entails.of_eq (rcvPay_3 m c)) $$ Hp
  icases Hp' with ⟨Hl3, He⟩
  iapply (add_step c (kx c) 2 (off8 c) rfl (pay := k0_pay9) fun _ _ => rfl) $$ [Hx Hl2]
  · isplitl [Hx] <;> iassumption
  iintro ⟨Hx, Hl2⟩
  iapply (add_step c (ky c) 3 (off10 c) rfl (pay := k0_pay10) fun _ _ => rfl) $$ [Hy Hl3]
  · isplitl [Hy] <;> iassumption
  iintro ⟨Hy, Hl3⟩
  unfold runs
  rw [wp_ret]; imodintro
  iapply Hk
  isplitl [HO]; · iexact HO
  isplitl [Hz]; · iexact Hz
  isplitl [Hx]; · iexact Hx
  isplitl [Hy]; · iexact Hy
  isplitl [Hl2]; · iexact Hl2
  isplitl [Hl3]; · iexact Hl3
  iexact He

/-- The eighth part sends the finished quarters back into the partners' working matrices, meanwhile widening them into the
    result, and waits for the first of the two copies to have left. -/
theorem part8_run (c : Dev nD) (v3 v4 v8 v11 : BitVec 32) (Q : PUnit → sProp 𝕄) :
    iprop(world m K ∗ debt c (owing c 2) ∗ tickets c 4 ∗ tickets c 5 ∗ anyRows (px c) (kx c) ∗ anyRows (py c) (ky c) ∗ rows c (kx c) fullShare (twoX m c)
        ∗ rows c (ky c) fullShare (twoY m c) ∗ (∃ Y, outRows c (kx c) Y) ∗ (∃ Y, outRows c (ky c) Y) ∗ sndPlace c 4)
      ⊢ iprop(((debt c (owing c 0) ∗ sndWait c 5 ∗ done c (kS 4) ∗ anyRows c (kx c) ∗ rows c (ky c) fullShare.right (twoY m c)
          ∗ outRows c (kx c) (k0_pay11 (twoX m c)) ∗ outRows c (ky c) (k0_pay11 (twoY m c))) -∗ Q ⟨⟩)
        -∗ runs c (k0_part8 aS (Memref.isWhole_whole _) bS (Memref.isWhole_whole _) oS (Memref.isWhole_whole _) wM (Memref.isWhole_whole _)
            cM (Memref.isWhole_whole _) bM (Memref.isWhole_whole _) cc0_scratch3 cc0_scratch4 c v3 v4 v8 v11) Q) := by
  simp only [k0_part8_eq_skeleton]; unfold k0_part8_skel
  simp only [Prog.lift, Prog.bind_op, Prog.bind_ret, Prog.pure_eq_ret, runs]
  unfold tickets sndWait sndPlace done
  iintro ⟨#HK, HO, ⟨Ht4s, Ht4r⟩, ⟨Ht5s, Ht5r⟩, Hdx, Hdy, Hx, Hy, Hox, Hoy, Hs4⟩ Hk
  ihave Hx' := (rows_halve c (kx c) (twoX m c)) $$ Hx
  icases Hx' with ⟨Hx, Hxr⟩
  iapply (copy_step m K c _ 4 (dev7 c) rfl rfl (rowView_of _ (off11 c)) rfl (rows_lent (q := srcQ 4 c) (rowView_of _ (off11 c))) (rows_landed (by decide) (rowView_of _ (off11 c))) (owing c 1)) $$ [HO Ht4s Ht4r Hx Hdx]
  · isplitr; · iexact HK
    isplitl [Hx]; · iapply (Entails.of_eq (sndPay_4 m c).symm) $$ Hx
    isplitl [Hdx]; · iexact Hdx
    isplitr; · iapply (no_extra (c := px c) (i := 4) (by decide) (by decide)); iempintro
    isplitl [HO]; · iexact HO
    isplitl [Ht4s] <;> iassumption
  iintro ⟨Hc4, HO⟩
  ihave Hy' := (rows_halve c (ky c) (twoY m c)) $$ Hy
  icases Hy' with ⟨Hy, Hyr⟩
  iapply (copy_step m K c _ 5 (dev8 c) rfl rfl (rowView_of _ (off12 c)) rfl (rows_lent (q := srcQ 5 c) (rowView_of _ (off12 c))) (rows_landed (by decide) (rowView_of _ (off12 c))) (owing c 0)) $$ [HO Ht5s Ht5r Hy Hdy]
  · isplitr; · iexact HK
    isplitl [Hy]; · iapply (Entails.of_eq (sndPay_5 m c).symm) $$ Hy
    isplitl [Hdy]; · iexact Hdy
    isplitr; · iapply (no_extra (c := py c) (i := 5) (by decide) (by decide)); iempintro
    isplitl [HO]; · iexact HO
    isplitl [Ht5s] <;> iassumption
  iintro ⟨Hc5, HO⟩
  iapply (emit_step c (kx c) (off8 c) (off8 c) (pay := k0_pay11) rfl) $$ [Hxr Hox]
  · isplitl [Hxr] <;> iassumption
  iintro ⟨Hxr, Hox⟩
  iapply (emit_step c (ky c) (off10 c) (off10 c) (pay := k0_pay12) rfl) $$ [Hyr Hoy]
  · isplitl [Hyr] <;> iassumption
  iintro ⟨Hyr, Hoy⟩
  iapply (await_snd m K c 4 rfl rfl (n := 0) (by decide)) $$ [HO Hc4 Hs4]
  · isplitr; · iexact HK
    isplitl [Hc4]; · iexact Hc4
    isplitl [HO] <;> iassumption
  iintro ⟨HO, Hz, Hp⟩
  ihave Hp' := (Entails.of_eq (sndPay_4 m c)) $$ Hp
  irename Hp' => Hx
  ihave Hx := (rows_join c (kx c) (twoX m c) (twoX m c)) $$ [Hx Hxr]
  · isplitl [Hx] <;> iassumption
  unfold runs
  rw [wp_ret]; imodintro
  iapply Hk
  isplitl [HO]; · iexact HO
  isplitl [Hc5]; · iexact Hc5
  isplitl [Hz]; · iexact Hz
  isplitl [Hx]; · iexact Hx
  isplitl [Hyr]; · iexact Hyr
  isplitl [Hox]; · iexact Hox
  iexact Hoy

end Cert.Exchange

end
-- ==== Proof.Body.lean ====
/-
# The body

The whole body, from what the launch leaves a device to the staged result written and every buffer and cell whole again.
-/
module

public import proofs.«01_k».proof.Proof.Parts

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Buffers into quarters and back -/

omit [FloatOps F] in
/-- The four quarters of a device, by their parts in the exchange. -/
theorem quarters (c : Dev nD) (Φ : Fin 4 → sProp 𝕄) : bigSep Finset.univ Φ = iprop(Φ (ox c) ∗ Φ (oy c) ∗ Φ (kx c) ∗ Φ (ky c)) :=
  bigSep_univ_eq_bigSepL [ox c, oy c, kx c, ky c] (by revert c; decide) (by revert c; decide) Φ

omit [FloatOps F] in
/-- The four slots. -/
theorem slots (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- The six copies. -/
theorem copies (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
/-- The thirteen cells. -/
theorem cells (Φ : Fin 13 → sProp 𝕄) : bigSep Finset.univ Φ = iprop(Φ 0 ∗ Φ (kS 0) ∗ Φ (kS 1) ∗ Φ (kS 2) ∗ Φ (kS 3) ∗ Φ (kS 4) ∗ Φ (kS 5)
    ∗ Φ (kR 0) ∗ Φ (kR 1) ∗ Φ (kR 2) ∗ Φ (kR 3) ∗ Φ (kR 4) ∗ Φ (kR 5)) :=
  bigSep_univ_eq_bigSepL [0, kS 0, kS 1, kS 2, kS 3, kS 4, kS 5, kR 0, kR 1, kR 2, kR 3, kR 4, kR 5] (by decide) (by decide) Φ

omit [FloatOps F] in
theorem rows_any (c : Dev nD) (q : Fin 4) (X : Vec F S192x768 .bf16) : rows c q fullShare X ⊢ (anyRows c q : sProp 𝕄) := by
  unfold anyRows; iintro H; iexists X; iexact H

omit [FloatOps F] in
/-- The working matrix is held quarter by quarter, -/
theorem work_split (c : Dev nD) (f : Buf (Elt F) ((c : Thread nD τ).loc cc0_scratch0)) :
    (((c : Thread nD τ).loc cc0_scratch0) ↦{fullShare} f : sProp 𝕄) ⊢ iprop(anyRows c (ox c) ∗ anyRows c (oy c) ∗ anyRows c (kx c) ∗ anyRows c (ky c)) := by
  rw [← quarters c fun q => anyRows c q]
  refine (held_split c cc0_scratch0 rowRect rows_disjoint rows_cover f).trans (bigSep_mono fun q _ =>
    show held c (rowView q) fullShare ((rowView q).read (Elt F) f) ⊢ (anyRows c q : sProp 𝕄) from ?_)
  exact rows_any c q _

omit [FloatOps F] in
/-- and is whole again of its quarters. -/
theorem work_gather (c : Dev nD) (f₀ : Buf (Elt F) ((c : Thread nD τ).loc cc0_scratch0)) : iprop(anyRows c (ox c) ∗ anyRows c (oy c) ∗ anyRows c (kx c) ∗ anyRows c (ky c))
    ⊢ (iprop(∃ f : Buf (Elt F) ((c : Thread nD τ).loc cc0_scratch0), ((c : Thread nD τ).loc cc0_scratch0) ↦{fullShare} f) : sProp 𝕄) := by
  rw [← quarters c fun q => anyRows c q]
  have h : ∀ _ : Fin 4, Nonempty (Vec F S192x768 .bf16) := fun q => ⟨(rowView q).read (Elt F) f₀⟩
  unfold anyRows rows
  refine (@bigSep_exists_pi _ _ _ _ (fun _ => Vec F S192x768 .bf16) h  Finset.univ fun q X => held c (rowView q) fullShare X).trans ?_
  iintro ⟨%X, H⟩
  ihave H' := (held_gather c cc0_scratch0 rowRect rows_disjoint rows_cover f₀ X) $$ H
  icases H' with ⟨%f, -, H⟩
  iexists f; iexact H

omit [FloatOps F] in
/-- The landing buffer is held slot by slot, -/
theorem comm_split (c : Dev nD) (f : Buf (Elt F) ((c : Thread nD τ).loc cc0_scratch1)) :
    (((c : Thread nD τ).loc cc0_scratch1) ↦{fullShare} f : sProp 𝕄) ⊢ iprop(anySlot c 0 ∗ anySlot c 1 ∗ anySlot c 2 ∗ anySlot c 3) := by
  rw [← slots fun i => anySlot c i]
  refine (held_split c cc0_scratch1 slotRect slots_disjoint slots_cover f).trans (bigSep_mono fun i _ =>
    show held c ((View.whole cc0_scratch1).slice (slotRect i)) fullShare (((View.whole cc0_scratch1).slice (slotRect i)).read (Elt F) f)
      ⊢ (anySlot c i : sProp 𝕄) from ?_)
  refine BIBase.Entails.trans ?_ (held_recount c ((View.whole cc0_scratch1).slice (slotRect i)) S192x768 squeezes_S1x192x768_S192x768.numel_eq fullShare)
  iintro H; iexists _; iexact H

omit [FloatOps F] in
/-- and is whole again of its slots. -/
theorem comm_gather (c : Dev nD) (f₀ : Buf (Elt F) ((c : Thread nD τ).loc cc0_scratch1)) : iprop(anySlot c 0 ∗ anySlot c 1 ∗ anySlot c 2 ∗ anySlot c 3)
    ⊢ (iprop(∃ f : Buf (Elt F) ((c : Thread nD τ).loc cc0_scratch1), ((c : Thread nD τ).loc cc0_scratch1) ↦{fullShare} f) : sProp 𝕄) := by
  rw [← slots fun i => anySlot c i]
  have h : ∀ _ : Fin 4, Nonempty (Vec F S1x192x768 .bf16) := fun i => ⟨((View.whole cc0_scratch1).slice (slotRect i)).read (Elt F) f₀⟩
  refine (bigSep_mono fun i _ => show (anySlot c i : sProp 𝕄)
      ⊢ iprop(∃ X, held c ((View.whole cc0_scratch1).slice (slotRect i)) fullShare X) from
    held_uncount c ((View.whole cc0_scratch1).slice (slotRect i)) S192x768 squeezes_S1x192x768_S192x768.numel_eq fullShare).trans ?_
  refine (@bigSep_exists_pi _ _ _ _ (fun _ => Vec F S1x192x768 .bf16) h  Finset.univ fun i X => held c ((View.whole cc0_scratch1).slice (slotRect i)) fullShare X).trans ?_
  iintro ⟨%X, H⟩
  ihave H' := (held_gather c cc0_scratch1 slotRect slots_disjoint slots_cover f₀ X) $$ H
  icases H' with ⟨%f, -, H⟩
  iexists f; iexact H

omit [FloatOps F] in
/-- The staged result is held quarter by quarter, -/
theorem out_split (c : Dev nD) (f : Buf (Elt F) ((c : Thread nD τ).loc cc0_stg2_0)) :
    (((c : Thread nD τ).loc cc0_stg2_0) ↦{fullShare} f : sProp 𝕄)
      ⊢ iprop((∃ Y, outRows c (ox c) Y) ∗ (∃ Y, outRows c (oy c) Y) ∗ (∃ Y, outRows c (kx c) Y) ∗ ∃ Y, outRows c (ky c) Y) := by
  rw [← quarters c fun q => iprop(∃ Y, outRows c q Y)]
  refine (held_split c cc0_stg2_0 rowRect rows_disjoint rows_cover f).trans (bigSep_mono fun q _ =>
    show outRows c q (((View.whole cc0_stg2_0).slice (rowRect q)).read (Elt F) f) ⊢ (iprop(∃ Y, outRows c q Y) : sProp 𝕄) from ?_)
  iintro H; iexists _; iexact H

theorem endV_kx (c : Dev nD) : endV m c (kx c) = twoX m c := if_pos rfl
theorem endV_ky (c : Dev nD) : endV m c (ky c) = twoY m c := (if_neg (by revert c; decide)).trans (if_pos rfl)
theorem endV_ox (c : Dev nD) : endV m c (ox c) = twoX m (px c) :=
  (if_neg (by revert c; decide)).trans ((if_neg (by revert c; decide)).trans (if_pos rfl))
theorem endV_oy (c : Dev nD) : endV m c (oy c) = twoY m (py c) :=
  (if_neg (by revert c; decide)).trans ((if_neg (by revert c; decide)).trans (if_neg (by revert c; decide)))

/-- and of its finished quarters it is the result. -/
theorem out_gather (c : Dev nD) :
    iprop(outRows c (ox c) (k0_pay11 (twoX m (px c))) ∗ outRows c (oy c) (k0_pay11 (twoY m (py c)))
        ∗ outRows c (kx c) (k0_pay11 (twoX m c)) ∗ outRows c (ky c) (k0_pay11 (twoY m c)))
      ⊢ (((c : Thread nD τ).loc cc0_stg2_0) ↦{fullShare} outAt m c : sProp 𝕄) := by
  rw [← endV_ox, ← endV_oy, ← endV_kx, ← endV_ky, ← quarters c fun q => outRows c q (k0_pay11 (endV m c q))]
  unfold outRows
  iintro H
  ihave H' := (held_gather c cc0_stg2_0 rowRect rows_disjoint rows_cover (outAt m c) fun q => k0_pay11 (endV m c q)) $$ H
  icases H' with ⟨%f, %hf, H⟩
  have e : f = outAt m c := eq_of_reads cc0_stg2_0 rowRect rows_cover fun q => (hf q).trans (outAt_read m c q).symm
  rw [← e]
  iexact H

/-! ## The body -/

section Body

variable (K : Dev nD × Fin 13 → ℕ)

/-- What the body leaves: its scratch buffers and cells as at the end, nothing owed, the blocks as staged, the result. -/
def bodyPost (c : Dev nD) : sProp 𝕄 :=
  iprop(Φ₁ c ∗ debt c 0 ∗ lhsHeld m c ∗ rhsHeld m c ∗ ((c : Thread nD τ).loc cc0_stg2_0) ↦{fullShare} outAt m c)

set_option maxHeartbeats 1000000 in
/-- The body run. -/
theorem body_run (c : Dev nD) (Q : PUnit → sProp 𝕄) :
    iprop(world m K ∗ places c ∗ pays c ∗ cred (tallyAt (barCell c) () 2)
        ∗ (bigSep Finset.univ fun i : Fin 6 => cred (tallyAt (rcvCell c i) () N)) ∗ scratch c ∗ debt c (O₀ c)
        ∗ lhsHeld m c ∗ rhsHeld m c ∗ ∃ f : Buf (Elt F) ((c : Thread nD τ).loc cc0_stg2_0), ((c : Thread nD τ).loc cc0_stg2_0) ↦{fullShare} f)
      ⊢ iprop((bodyPost m c -∗ Q ⟨⟩)
        -∗ runs c (cc0_body aS (Memref.isWhole_whole _) bS (Memref.isWhole_whole _) oS (Memref.isWhole_whole _) wM (Memref.isWhole_whole _)
            cM (Memref.isWhole_whole _) bM (Memref.isWhole_whole _) cc0_scratch3 cc0_scratch4) Q) := by
  simp only [cc0_body_eq_skeleton]; unfold cc0_body_skel
  simp only [k0_part9_eq_skeleton]; unfold k0_part9_skel
  simp only [Prog.lift, Prog.bind_op, Prog.bind_ret, Prog.pure_eq_ret, runs]
  rw [wp_bind, wp_bind]
  unfold places pays scratch
  rw [cells, copies, copies, copies]
  iintro ⟨#HK, ⟨HatB, Hp0, Hp1, Hp2, Hp3, Hp4, Hp5, Hq0, Hq1, Hq2, Hq3, Hq4, Hq5⟩,
    ⟨Htx, Hty, ⟨Hts0, Hts1, Hts2, Hts3, Hts4, Hts5⟩, ⟨Htr0, Htr1, Htr2, Htr3, Htr4, Htr5⟩⟩, Hcb, ⟨Hg0, Hg1, Hg2, Hg3, Hg4, Hg5⟩,
    ⟨⟨%fw, Hw⟩, ⟨%fc, Hl⟩, Hbw⟩, HO, Ha, Hb, ⟨%fo, Hout⟩⟩ Hk
  ihave Hw' := (work_split c fw) $$ Hw
  icases Hw' with ⟨Hwox, Hwoy, Hwkx, Hwky⟩
  ihave Hl' := (comm_split c fc) $$ Hl
  icases Hl' with ⟨Hl0, Hl1, Hl2, Hl3⟩
  ihave Ho' := (out_split c fo) $$ Hout
  icases Ho' with ⟨Hoox, Hooy, Hokx, Hoky⟩
  iapply (part1_run m K c _) $$ [HO Htx Hty Hl0 Hl1 Hl2 Hl3 Hcb HatB Ha Hb Hbw]
  · isplitr; · iexact HK
    isplitl [HO]; · iexact HO
    isplitl [Htx]; · iexact Htx
    isplitl [Hty]; · iexact Hty
    isplitl [Hl0]; · iexact Hl0
    isplitl [Hl1]; · iexact Hl1
    isplitl [Hl2]; · iexact Hl2
    isplitl [Hl3]; · iexact Hl3
    isplitl [Hcb]; · iexact Hcb
    isplitl [HatB]; · iexact HatB
    isplitl [Ha]; · iexact Ha
    isplitl [Hb]; · iexact Hb
    iexact Hbw
  iintro %v3 %v4 %v8 %v9 %v11 %v12 ⟨HO, Hz, Hd0, Hd1, Hd2, Hd3, Ha, Hb, Hbw⟩
  dsimp only
  rw [wp_bind]
  iapply (part2_run m K c _ _ _ _) $$ [HO Hts0 Htr0 Hd0 Hwox Hwoy Ha Hbw]
  · isplitr; · iexact HK
    isplitl [HO]; · iexact HO
    isplitl [Hts0 Htr0]
    · isplitl [Hts0]; · iexact Hts0
      iexact Htr0
    isplitl [Hd0]; · iexact Hd0
    isplitl [Hwox]; · iexact Hwox
    isplitl [Hwoy]; · iexact Hwoy
    isplitl [Ha]; · iexact Ha
    iexact Hbw
  iintro ⟨HO, Hc0, Hwoy, Ha, Hbw⟩
  rw [wp_bind]
  iapply (part3_run m K c _ _ _ _) $$ [HO Hts1 Htr1 Hd1 Hwoy Hwkx Hwky Ha Hbw]
  · isplitr; · iexact HK
    isplitl [HO]; · iexact HO
    isplitl [Hts1 Htr1]
    · isplitl [Hts1]; · iexact Hts1
      iexact Htr1
    isplitl [Hd1]; · iexact Hd1
    isplitl [Hwoy]; · iexact Hwoy
    isplitl [Hwkx]; · iexact Hwkx
    isplitl [Hwky]; · iexact Hwky
    isplitl [Ha]; · iexact Ha
    iexact Hbw
  iintro ⟨HO, Hc1, Hwkx, Hwky, Ha, Hbw⟩
  rw [wp_bind]
  iapply (part4_run m K c _ _ _ _) $$ [HO Hc0 Hp0 Hg0 Hq0 Hc1 Hp1 Hg1 Hq1]
  · isplitr; · iexact HK
    isplitl [HO]; · iexact HO
    isplitl [Hc0]; · iexact Hc0
    isplitl [Hp0]; · iexact Hp0
    isplitl [Hg0 Hq0]
    · isplitl [Hg0]; · iexact Hg0
      iexact Hq0
    isplitl [Hc1]; · iexact Hc1
    isplitl [Hp1]; · iexact Hp1
    isplitl [Hg1]; · iexact Hg1
    iexact Hq1
  iintro %v120 ⟨HO, ⟨Hzs0, Hzr0, Hzs1, Hzr1⟩, Hwox, Hwoy, Hl0, Hl1⟩
  rw [wp_bind]
  ihave Hwox := (rows_any c (ox c) _) $$ Hwox
  ihave Hwoy := (rows_any c (oy c) _) $$ Hwoy
  iapply (part5_run m K c _ _ _ _ _ _) $$ [HO Hts2 Htr2 Hd2 Hwoy Hwkx Hwky Hl0 Hl1]
  · isplitr; · iexact HK
    isplitl [HO]; · iexact HO
    isplitl [Hts2 Htr2]
    · isplitl [Hts2]; · iexact Hts2
      iexact Htr2
    isplitl [Hd2]; · iexact Hd2
    isplitl [Hwoy]; · iexact Hwoy
    isplitl [Hwkx]; · iexact Hwkx
    isplitl [Hwky]; · iexact Hwky
    isplitl [Hl0]; · iexact Hl0
    iexact Hl1
  iintro ⟨HO, Hc2, Hwky, Hl0, Hl1⟩
  rw [wp_bind]
  iapply (part6_run m K c _ _ _) $$ [HO Hts3 Htr3 Hd3 Hwox Hwky Hc2 Hp2 Hg2 Hq2 Hp3]
  · isplitr; · iexact HK
    isplitl [HO]; · iexact HO
    isplitl [Hts3 Htr3]
    · isplitl [Hts3]; · iexact Hts3
      iexact Htr3
    isplitl [Hd3]; · iexact Hd3
    isplitl [Hwox]; · iexact Hwox
    isplitl [Hwky]; · iexact Hwky
    isplitl [Hc2]; · iexact Hc2
    isplitl [Hp2]; · iexact Hp2
    isplitl [Hg2 Hq2]
    · isplitl [Hg2]; · iexact Hg2
      iexact Hq2
    iexact Hp3
  iintro ⟨HO, ⟨Hzs2, Hzr2, Hzs3⟩, Hwkx, Hwky, Hl2, Hey⟩
  rw [wp_bind]
  iapply (part7_run m K c _ _ _ _) $$ [HO Hg3 Hq3 Hwkx Hwky Hl2]
  · isplitr; · iexact HK
    isplitl [HO]; · iexact HO
    isplitl [Hg3 Hq3]
    · isplitl [Hg3]; · iexact Hg3
      iexact Hq3
    isplitl [Hwkx]; · iexact Hwkx
    isplitl [Hwky]; · iexact Hwky
    iexact Hl2
  iintro ⟨HO, Hzr3, Hwkx, Hwky, Hl2, Hl3, Hex⟩
  rw [wp_bind]
  iapply (part8_run m K c _ _ _ _ _) $$ [HO Hts4 Htr4 Hts5 Htr5 Hex Hey Hwkx Hwky Hokx Hoky Hp4]
  · isplitr; · iexact HK
    isplitl [HO]; · iexact HO
    isplitl [Hts4 Htr4]
    · isplitl [Hts4]; · iexact Hts4
      iexact Htr4
    isplitl [Hts5 Htr5]
    · isplitl [Hts5]; · iexact Hts5
      iexact Htr5
    isplitl [Hex]; · iexact Hex
    isplitl [Hey]; · iexact Hey
    isplitl [Hwkx]; · iexact Hwkx
    isplitl [Hwky]; · iexact Hwky
    isplitl [Hokx]; · iexact Hokx
    isplitl [Hoky]; · iexact Hoky
    iexact Hp4
  iintro ⟨HO, Hc5, Hzs4, Hwkx, Hwky, Hokx, Hoky⟩
  iapply (await_rcv m K c 4 rfl rfl (n := 0) (by decide) (by decide)) $$ [HO Hg4 Hq4]
  · isplitr; · iexact HK
    isplitl [Hg4]; · iexact Hg4
    isplitl [HO] <;> iassumption
  iintro ⟨HO, Hzr4, Hp⟩
  ihave Hp' := (Entails.of_eq (rcvPay_4 m c)) $$ Hp
  icases Hp' with ⟨Hwox, -⟩
  iapply (await_snd m K c 5 rfl rfl (n := 0) (by decide)) $$ [HO Hc5 Hp5]
  · isplitr; · iexact HK
    isplitl [Hc5]; · iexact Hc5
    isplitl [HO] <;> iassumption
  iintro ⟨HO, Hzs5, Hp⟩
  ihave Hp' := (Entails.of_eq (sndPay_5 m c)) $$ Hp
  irename Hp' => Hwkyl
  iapply (await_rcv m K c 5 rfl rfl (n := 0) (by decide) (by decide)) $$ [HO Hg5 Hq5]
  · isplitr; · iexact HK
    isplitl [Hg5]; · iexact Hg5
    isplitl [HO] <;> iassumption
  iintro ⟨HO, Hzr5, Hp⟩
  ihave Hp' := (Entails.of_eq (rcvPay_5 m c)) $$ Hp
  icases Hp' with ⟨Hwoy, -⟩
  iapply (emit_step c (ox c) (off2 c) (off2 c) (pay := k0_pay13) rfl) $$ [Hwox Hoox]
  · isplitl [Hwox] <;> iassumption
  iintro ⟨Hwox, Hoox⟩
  iapply (rows_load c _ (off4 c)) $$ Hwoy; iintro Hwoy
  unfold runs
  rw [wp_ret]; imodintro
  dsimp only
  icases Hooy with ⟨%Y, Hooy⟩
  iapply (out_load c _ (off4 c)) $$ Hooy; iintro Hooy
  iapply (out_store c _ (off4 c)) $$ Hooy; iintro Hooy
  unfold runs
  rw [wp_ret]; imodintro
  iapply Hk
  unfold bodyPost Φ₁ scratch
  rw [cells]
  isplitr [HO Ha Hb Hoox Hooy Hokx Hoky]
  · isplitl [Hwox Hwoy Hwkx Hwky Hwkyl Hl0 Hl1 Hl2 Hl3 Hbw]
    · isplitl [Hwox Hwoy Hwkx Hwky Hwkyl]
      · iapply (work_gather c fw)
        isplitl [Hwox]; · iapply (rows_any c _ _) $$ Hwox
        isplitl [Hwoy]; · iapply (rows_any c _ _) $$ Hwoy
        isplitl [Hwkx]; · iexact Hwkx
        iapply (rows_join c (ky c) (twoY m c) (twoY m c))
        isplitl [Hwkyl] <;> iassumption
      isplitl [Hl0 Hl1 Hl2 Hl3]
      · iapply (comm_gather c fc)
        isplitl [Hl0]; · iexact Hl0
        isplitl [Hl1]; · iexact Hl1
        isplitl [Hl2] <;> iassumption
      unfold rhsWHeld
      iexists _; iexact Hbw
    unfold done
    isplitl [Hz]; · iexact Hz
    isplitl [Hzs0]; · iexact Hzs0
    isplitl [Hzs1]; · iexact Hzs1
    isplitl [Hzs2]; · iexact Hzs2
    isplitl [Hzs3]; · iexact Hzs3
    isplitl [Hzs4]; · iexact Hzs4
    isplitl [Hzs5]; · iexact Hzs5
    isplitl [Hzr0]; · iexact Hzr0
    isplitl [Hzr1]; · iexact Hzr1
    isplitl [Hzr2]; · iexact Hzr2
    isplitl [Hzr3]; · iexact Hzr3
    isplitl [Hzr4]; · iexact Hzr4
    iexact Hzr5
  isplitl [HO]; · iexact HO
  isplitl [Ha]; · iexact Ha
  isplitl [Hb]; · iexact Hb
  iapply (out_gather m c)
  isplitl [Hoox]; · iexact Hoox
  isplitl [Hooy]; · iexact Hooy
  isplitl [Hokx]; · iexact Hokx
  iexact Hoky

end Body

/-! ## The library's obligation -/

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

theorem fetch_lhs : (cfg0.win (0 : Fin 3)).fetch t₀ = true := rfl
theorem fetch_rhs : (cfg0.win (1 : Fin 3)).fetch t₀ = true := rfl

omit [FloatOps F] in
/-- Owning a whole buffer's window at `X` is holding the buffer at `X`. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X) := by
  unfold owns
  simp only [Memref.view_whole, View.read_whole, View.set_whole]
  refine equiv_iff.mp ⟨show (iprop(∃ f : Buf (Elt F) ((c : Thread nD τ).loc b), ⌜f = X⌝ ∗ (((c : Thread nD τ).loc b) ↦{fullShare} f)) : sProp 𝕄)
      ⊢ (((c : Thread nD τ).loc b) ↦{fullShare} X) from ?_,
    show (((c : Thread nD τ).loc b) ↦{fullShare} X : sProp 𝕄)
      ⊢ iprop(∃ f : Buf (Elt F) ((c : Thread nD τ).loc b), ⌜f = X⌝ ∗ (((c : Thread nD τ).loc b) ↦{fullShare} f)) from ?_⟩
  · iintro ⟨%f, %hf, H⟩; subst hf; iexact H
  · iintro H; iexists X; isplitr
    · ipureintro; rfl
    iexact H

/-- The body meets its obligation on every device. -/
theorem body_obligation (c : Dev nD) : BodyObligation (dats m 0 c) (defs₀ (F := F)) 𝒱₀ () Set.univ := fun t => by
  rw [fin_N t]
  rw [bigSep_W, bigSep_W]
  show iprop(Φ₀ m c ∗ (dats m 0 c).owesAt () t₀.castSucc
      ∗ (∃ d, owns (c : Thread nD τ) (Memref.whole cc0_stg0_0) fullShare ((dats m 0 c).before (0 : Fin 3) t₀ d))
      ∗ (∃ d, owns (c : Thread nD τ) (Memref.whole cc0_stg1_0) fullShare ((dats m 0 c).before (1 : Fin 3) t₀ d))
      ∗ ∃ d, owns (c : Thread nD τ) (Memref.whole cc0_stg2_0) fullShare ((dats m 0 c).before (2 : Fin 3) t₀ d))
    ⊢ runs c (cc0_body aS (Memref.isWhole_whole _) bS (Memref.isWhole_whole _) oS (Memref.isWhole_whole _) wM (Memref.isWhole_whole _)
        cM (Memref.isWhole_whole _) bM (Memref.isWhole_whole _) cc0_scratch3 cc0_scratch4)
      fun _ => iprop(Φ₁ c ∗ (dats m 0 c).owesAt () t₀.succ ∗ owns (c : Thread nD τ) (Memref.whole cc0_stg0_0) fullShare (lhs m c)
        ∗ owns (c : Thread nD τ) (Memref.whole cc0_stg1_0) fullShare (rhs m c) ∗ owns (c : Thread nD τ) (Memref.whole cc0_stg2_0) fullShare (outAt m c))
  have h0 (d) : (dats m 0 c).before (0 : Fin 3) t₀ d = lhs m c := by unfold Dat.before; rw [if_pos fetch_lhs]; rfl
  have h1 (d) : (dats m 0 c).before (1 : Fin 3) t₀ d = rhs m c := by unfold Dat.before; rw [if_pos fetch_rhs]; rfl
  simp only [owns_whole, h0, h1]
  unfold Φ₀ start Dat.owesAt Pipeline.owesWithin
  iintro ⟨⟨⟨⟨%K, HK⟩, Hpl, Hpa, Hcb, Hg⟩, Hs⟩, ⟨%W, -, HO⟩, ⟨%d0, Ha⟩, ⟨%d1, Hb⟩, ⟨%d2, Ho⟩⟩
  iapply (body_run m K c _) $$ [HK Hpl Hpa Hcb Hg Hs HO Ha Hb Ho]
  · isplitl [HK]; · iexact HK
    isplitl [Hpl]; · iexact Hpl
    isplitl [Hpa]; · iexact Hpa
    isplitl [Hcb]; · iexact Hcb
    isplitl [Hg]; · iexact Hg
    isplitl [Hs]; · iexact Hs
    isplitl [HO]; · unfold debt; iexists W; iexact HO
    isplitl [Ha]; · unfold lhsHeld; iexact Ha
    isplitl [Hb]; · unfold rhsHeld; iexact Hb
    iexists _; iexact Ho
  unfold bodyPost debt lhsHeld rhsHeld
  iintro ⟨Hf, ⟨%W', HO⟩, Ha, Hb, Ho⟩
  isplitl [Hf]; · iexact Hf
  isplitl [HO]
  · iexists W'; isplitr
    · ipureintro; exact fun _ _ => Or.inl trivial
    iexact HO
  isplitl [Ha]; · iexact Ha
  isplitl [Hb]; · iexact Hb
  iexact Ho

end Cert.Exchange

end
-- ==== Proof.Launch.lean ====
/-
# The exchange: the launch

The run of the whole program on the four devices. Before the bodies start, every semaphore the exchange uses is put
under its invariant, and the tokens of the duties are handed to the devices that pay them.
-/
module

public import proofs.«01_k».proof.Proof.Body
public import Idealize.ShloMosaic.Lib.Pipeline.CollectiveSegs
public import Idealize.ShloMosaic.Lib.Pipeline.ValueKit.Geometry

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide

theorem kcell_injective : Function.Injective kcell := by
  rintro ⟨c, k⟩ ⟨c', k'⟩ h
  have hc : c = c' := congrArg (fun g : GSem nD τ sig => g.1.1) h
  have hk : k = k' := csem_injective (congrArg Prod.snd h)
  rw [hc, hk]

/-- All cells of all devices. -/
def allCells : Finset (GSem nD τ sig) := Finset.univ.map ⟨kcell, kcell_injective⟩

/-- A token for either duty of every cell (a semaphore of the kernel's own has no second duty; its token is never spent). -/
def tokOf (x : (Dev nD × Fin 13) × Bool) : GSem nD τ sig × ℕ × Bool := (kcell x.1, 0, x.2)
theorem tokOf_injective : Function.Injective tokOf := fun x y h =>
  Prod.ext (kcell_injective (congrArg Prod.fst h)) (congrArg (fun t : GSem nD τ sig × ℕ × Bool => t.2.2) h)
def allToks : Finset (GSem nD τ sig × ℕ × Bool) := Finset.univ.map ⟨tokOf, tokOf_injective⟩

/-- The ghost state the program is launched with: the pipeline's and the exchange's. -/
def u₀ : UU := (initOf (Pipeline.cells cfgs cellOf_inj) (Pipeline.launchToks cfgs cellOf_inj), initOf allCells allToks)

/-- The tokens of device `c`'s own cells. -/
def toks (c : Dev nD) : sProp 𝕄 :=
  bigSep Finset.univ fun k : Fin 13 => iprop(dutyTok EX (kcell (c, k)) 0 false ∗ dutyTok EX (kcell (c, k)) 0 true)

/-- What the launch deals device `c`: its cells at their first round, and their tokens. -/
def G (c : Dev nD) : sProp 𝕄 :=
  iprop((bigSep Finset.univ fun k : Fin 13 => roundState EX (rd m) (kcell (c, k)) 0)
    ∗ (bigSep Finset.univ fun k : Fin 13 => iprop(atPos EX (kcell (c, k)) 0 ∅ 0 ∗ reached EX (kcell (c, k)) 0)) ∗ toks c)

/-- All invariants under the names `K`, and that every cell has reached its round. -/
def records (K : Dev nD × Fin 13 → ℕ) : sProp 𝕄 :=
  iprop((bigSep Finset.univ fun ck : Dev nD × Fin 13 => cellInv EX (rd m) (K ck) (kcell ck))
    ∗ bigSep Finset.univ fun ck : Dev nD × Fin 13 => reached EX (kcell ck) 0)
instance records_persistent (K : Dev nD × Fin 13 → ℕ) : BI.Persistent (records m K) := by unfold records; infer_instance

/-- What device `c` holds once all cells are under their invariants. -/
def G' (c : Dev nD) : sProp 𝕄 := iprop((∃ K, records m K) ∗ places c ∗ pays c)

omit [FloatOps F] in
theorem bigSep_bool (Φ : Bool → sProp 𝕄) : bigSep Finset.univ Φ = iprop(Φ false ∗ Φ true) :=
  bigSep_univ_eq_bigSepL [false, true] (by decide) (by decide) Φ

theorem fund_cells : BI.own (EX (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 13 => Φ (kcell (c, k)) := by
    unfold allCells; rw [bigSep_map, bigSep_univ_prod]; rfl
  have hT : bigSep allToks (fun x => (dutyTok EX x.1 x.2.1 x.2.2 : sProp 𝕄)) = bigSep Finset.univ fun c : Dev nD => toks c := by
    unfold allToks; rw [bigSep_map, bigSep_univ_prod, bigSep_univ_prod]
    exact bigSep_congr fun c _ => bigSep_congr fun k _ => bigSep_bool _
  iintro HX
  imod (Rounds.fund EX (rd m) allCells allToks) $$ HX with ⟨Hst, Hr, Hat, Htok⟩
  imodintro
  ihave Hst' := (Entails.of_eq (hX fun g => roundState EX (rd m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores into their invariants -/

omit [FloatOps F] in
/-- A device's thirteen cells: the barrier, the departures, the arrivals. -/
theorem cells_parts (Φ : Fin 13 → sProp 𝕄) :
    bigSep Finset.univ Φ = iprop(Φ 0 ∗ (bigSep Finset.univ fun i : Fin 6 => Φ (kS i)) ∗ bigSep Finset.univ fun i : Fin 6 => Φ (kR i)) := by
  rw [cells, copies, copies]
  refine BI.Entails.antisymm (show _ ⊢ (_ : sProp 𝕄) from ?_) (show _ ⊢ (_ : sProp 𝕄) from ?_)
  · iintro ⟨H, H0, H1, H2, H3, H4, H5, HR⟩
    isplitl [H]; · iexact H
    isplitr [HR]
    · isplitl [H0]; · iexact H0
      isplitl [H1]; · iexact H1
      isplitl [H2]; · iexact H2
      isplitl [H3]; · iexact H3
      isplitl [H4] <;> iassumption
    · iexact HR
  · iintro ⟨H, ⟨H0, H1, H2, H3, H4, H5⟩, HR⟩
    isplitl [H]; · iexact H
    isplitl [H0]; · iexact H0
    isplitl [H1]; · iexact H1
    isplitl [H2]; · iexact H2
    isplitl [H3]; · iexact H3
    isplitl [H4]; · iexact H4
    isplitl [H5] <;> iassumption

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The barrier semaphore is the one the launch hands over beside the kernel's own twelve; together they are the cells. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 13 => semVal (kcell (c, k)) 0 : sProp 𝕄) := by
  rw [Pipeline.ownSems0_eq_of_list c osem [0, 1, 2, 3, 4, 5, 6, 7, 8, 9, 10, 11] (by decide) (by decide), unscopedSems0_eq, cells]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (rd m) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 13 => semVal (kcell (c, k)) 0) ∗ bigSep Finset.univ fun k : Fin 13 => roundState EX (rd m) (kcell (c, k)) 0)
      ⊢ (|={Set.univ}=> bigSep Finset.univ fun k => iprop(∃ κ : ℕ, cellInv EX (rd m) κ (kcell (c, k))) : sProp 𝕄) from by
        rw [← bigSep_sep']
        exact (bigSep_mono fun k _ => (Rounds.body_intro EX (rd m) (kcell (c, k))).trans inv_alloc).trans (bigSep_fupd _ _)) $$ [Hv Hst] with Hinv
  · isplitl [Hv] <;> iassumption
  imodintro
  isplitl [Hinv]; · iexact Hinv
  isplitl [Hat] <;> iassumption

/-! ## The tokens to those who pay -/

def flipX : Dev nD ≃ Dev nD := ⟨px, px, px_px, px_px⟩
def flipY : Dev nD ≃ Dev nD := ⟨py, py, py_py, py_py⟩
def flipP : Dev nD × Fin 6 ≃ Dev nD × Fin 6 :=
  ⟨fun x => (peer x.2 x.1, x.2), fun x => (peer x.2 x.1, x.2), fun x => Prod.ext (peer_peer x.2 x.1) rfl, fun x => Prod.ext (peer_peer x.2 x.1) rfl⟩

omit [FloatOps F] in
/-- A cell's own tokens: the barrier's two, and one for each departure and each arrival. -/
theorem toks_open (c : Dev nD) : (toks c : sProp 𝕄) ⊢ iprop(dutyTok EX (barCell c) 0 false ∗ dutyTok EX (barCell c) 0 true
    ∗ (bigSep Finset.univ fun i : Fin 6 => dutyTok EX (sndCell c i) 0 false) ∗ bigSep Finset.univ fun i : Fin 6 => dutyTok EX (rcvCell c i) 0 false) := by
  unfold toks
  rw [bigSep_sep', cells_parts fun k => dutyTok EX (kcell (c, k)) 0 false]
  simp only [kcell_snd, kcell_rcv, kcell_bar]
  iintro ⟨⟨H0, HS, HR⟩, HT⟩
  isplitl [H0]; · iexact H0
  isplitl [HT]
  · iapply (show _ ⊢ _ from bigSep_elim (Φ := fun k : Fin 13 => (dutyTok EX (kcell (c, k)) 0 true : sProp 𝕄)) (Finset.mem_univ 0)); iexact HT
  isplitl [HS] <;> iassumption

omit [FloatOps F] in
/-- Each token goes to the device that pays the duty: the partner across the barrier, the sender of the arrival. -/
theorem toks_around : (bigSep Finset.univ fun c : Dev nD => (toks c : sProp 𝕄)) ⊢ bigSep Finset.univ fun c : Dev nD => pays c := by
  have hR : (bigSep Finset.univ fun c : Dev nD => bigSep Finset.univ fun i : Fin 6 => (dutyTok EX (rcvCell c i) 0 false : sProp 𝕄))
      = bigSep Finset.univ fun c : Dev nD => bigSep Finset.univ fun i : Fin 6 => dutyTok EX (rcvCell (peer i c) i) 0 false := by
    rw [← bigSep_univ_prod (fun x : Dev nD × Fin 6 => (dutyTok EX (rcvCell x.1 x.2) 0 false : sProp 𝕄)), bigSep_univ_equiv flipP, bigSep_univ_prod]; rfl
  refine (show _ ⊢ _ from bigSep_mono fun c _ => toks_open c).trans ?_
  unfold pays
  rw [bigSep_sep', bigSep_sep', bigSep_sep', bigSep_sep', bigSep_sep', bigSep_sep', hR,
    bigSep_univ_equiv flipX (fun c : Dev nD => (dutyTok EX (barCell c) 0 false : sProp 𝕄)),
    bigSep_univ_equiv flipY (fun c : Dev nD => (dutyTok EX (barCell c) 0 true : sProp 𝕄))]
  exact Entails.rfl

omit [FloatOps F] in
/-- Something known for good can be used for every member of a family. -/
theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (rd m) κ (kcell (c, k))))
          ∗ (bigSep Finset.univ fun k => iprop(atPos EX (kcell (c, k)) 0 ∅ 0 ∗ reached EX (kcell (c, k)) 0)) ∗ toks c) : sProp 𝕄)
      ⊢ bigSep Finset.univ (G' m) := by
  rw [bigSep_sep', bigSep_sep', ← bigSep_univ_prod (fun ck : Dev nD × Fin 13 => iprop(∃ κ : ℕ, cellInv EX (rd m) κ (kcell ck))),
    bigSep_congr (s := Finset.univ) (fun (c : Dev nD) _ => bigSep_sep' Finset.univ (fun k : Fin 13 => (atPos EX (kcell (c, k)) 0 ∅ 0 : sProp 𝕄)) (fun k => reached EX (kcell (c, k)) 0)),
    bigSep_sep', ← bigSep_univ_prod (fun ck : Dev nD × Fin 13 => (reached EX (kcell ck) 0 : sProp 𝕄))]
  iintro ⟨HI, ⟨Hat, #HR⟩, Htok⟩
  ihave HK := (BI.bigSep_exists_pi Finset.univ (fun (ck : Dev nD × Fin 13) (κ : ℕ) => (cellInv EX (rd m) κ (kcell ck) : sProp 𝕄))) $$ HI
  icases HK with ⟨%K, #HI⟩
  ihave Htk := (toks_around (F := F)) $$ Htok
  iapply (bigSep_knowing (R := records m K) (Φ := fun c => iprop(places c ∗ pays c)) fun c _ => show _ ⊢ G' m c from by
    unfold G'
    iintro ⟨HK, H⟩
    isplitl [HK]
    · iexists K; iexact HK
    iexact H)
  isplitr
  · unfold records; isplitl
    · iexact HI
    iexact HR
  · iapply (Entails.of_eq (bigSep_sep' Finset.univ (fun c : Dev nD => (places c : sProp 𝕄)) pays).symm)
    isplitl [Hat]
    · unfold places; iexact Hat
    iexact Htk

/-- All devices' semaphores at once, into the invariants. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What a device is owed -/

/-- A device owes the landings of its six copies beside its two signals. -/
theorem owing_sum (c : Dev nD) : owing c 6 = ∑ i : Fin 6, due c i := by
  rw [Fin.sum_univ_six]
  show 0 + due c 5 + due c 4 + due c 3 + due c 2 + due c 1 + due c 0 = _
  generalize due c 0 = a0, due c 1 = a1, due c 2 = a2, due c 3 = a3, due c 4 = a4, due c 5 = a5
  rw [zero_add, add_comm (a5 + a4 + a3 + a2 + a1) a0, add_comm (a5 + a4 + a3 + a2) a1, add_comm (a5 + a4 + a3) a2, add_comm (a5 + a4) a3, add_comm a5 a4]
  simp only [add_assoc]

omit [FloatOps F] in
/-- So it is owed two signals at its barrier and one copy at each of its arrival cells. -/
theorem creds (c : Dev nD) :
    (Pipeline.launchCred O₀ c : sProp 𝕄) ⊢ iprop(cred (tallyAt (barCell c) () 2) ∗ bigSep Finset.univ fun i : Fin 6 => cred (tallyAt (rcvCell c i) () N)) := by
  have hO : O₀ = fun d => ((∑ i : Fin 6, due d i) + tallyAt (barCell (py d)) () 1) + tallyAt (barCell (px d)) () 1 := by
    funext d; unfold O₀ O₁; rw [owing_sum]
  rw [hO, Pipeline.launchCred_add, Pipeline.launchCred_add, Pipeline.launchCred_sum Finset.univ (fun i d => due d i)]
  iintro ⟨⟨HR, HY⟩, HX⟩
  ihave HY' := (Pipeline.launchCred_tallyAt (.reg barS) py py py_py py_py () 1 c) $$ HY
  ihave HX' := (Pipeline.launchCred_tallyAt (.reg barS) px px px_px px_px () 1 c) $$ HX
  isplitl [HX' HY']
  · rw [show (tallyAt (barCell c) () 2 : CellTallies nD τ sig Unit) = tallyAt (barCell c) () 1 + tallyAt (barCell c) () 1 from (tallyAt_add _ _ 1 1).symm]
    iapply (cred_add _ _).2
    isplitl [HX'] <;> iassumption
  · iapply (show _ ⊢ _ from bigSep_mono fun i _ => Pipeline.launchCred_tallyAt (.dma (rcv i)) (peer i) (peer i) (peer_peer i) (peer_peer i) () N c)
    iexact HR

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  unfold G' records
  icases HG with ⟨⟨%K, HI, HR⟩, Hpl, Hpa⟩
  imodintro
  unfold start world
  isplitl
  · isplitl [HI HR Hlev]
    · iexists K
      isplitl [HI]; · iexact HI
      isplitl [HR] <;> iassumption
    isplitl [Hpl]; · iexact Hpl
    isplitl [Hpa]; · iexact Hpa
    isplitl [H1] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scratch
  iintro ⟨Hr, Hz⟩
  ihave Hz' := (Entails.of_eq (sems0_eq (F := F) c).symm) $$ Hz
  icases Hz' with ⟨HU, HO⟩
  isplitl [HU]; · iexact HU
  isplitl [HO] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What window `w`'s array holds at the end. -/
def finalA (c : Dev nD) (w : Fin cfg0.W) : Buf (Elt F) ((cfg0.win w).arr.view.loc (c : Thread nD τ)) := (dats m 0 c).arrAt w cfg0.N

/-- Every device's arrays hold what the exchange leaves. -/
def QC : PUnit × MemSt nD τ sig (Elt F) → Prop := fun r =>
  ∀ c : Dev nD, ∀ w : Fin cfg0.W, r.2.mem ((cfg0.win w).arr.view.loc (c : Thread nD τ)) = finalA m c w

/-- From any memory with all counters at zero, for any floats: every fair run of the program on the four devices ends, every
    device's arrays then hold what the exchange leaves, and every semaphore counter is back at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays end as they began; -/
theorem finalA_lhs (c : Dev nD) : finalA m c (0 : Fin 3) = m ((c : Thread nD τ).loc main_arg0) := (dats m 0 c).arrAt_in (0 : Fin 3) rfl _
theorem finalA_rhs (c : Dev nD) : finalA m c (1 : Fin 3) = m ((c : Thread nD τ).loc main_arg1) := (dats m 0 c).arrAt_in (1 : Fin 3) rfl _
/-- the result's array holds the exchange's result. -/
theorem finalA_out (c : Dev nD) : finalA m c (2 : Fin 3) = outAt m c := by
  refine (dats m 0 c).arrAt_eq_of_after_last (2 : Fin 3) t₀ (by decide +kernel) (outAt m c) (fun j => ?_)
  rfl

end Cert.Exchange

end
-- ==== Proof.Value.lean ====
/-
# The exchange: the value

Over the extended reals what every device ends with is the product of the two whole operands: each quarter of the
result is the sum of the four devices' partial products of it, and the four partial sums over 384 positions are
the one sum over all 1536.
-/
module

public import proofs.«01_k».proof.Proof.Launch
public import proofs.«01_k».proof.Proof.Gen.ReferenceIdeal
public import Idealize.ShloMosaic.Lib.Layout
public import Idealize.ShloMosaic.Lib.Pointwise

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The exchange adds up the partial products -/

/-- The four devices, as the partners `px` first and `py` then bring them together; -/
theorem sum_px_py (c : Dev nD) (g : Dev nD → EReal) : ∑ d, g d = (g c + g (px c)) + (g (py c) + g (px (py c))) := by
  have h : ∑ d, g d = ∑ i : Fin 4, g (![c, px c, py c, px (py c)] i) :=
    (Equiv.sum_comp (Equiv.ofBijective (![c, px c, py c, px (py c)] : Fin 4 → Dev nD) (by revert c; decide)) g).symm
  rw [h, Fin.sum_univ_four]; exact add_assoc _ _ _
/-- and the other way about. -/
theorem sum_py_px (c : Dev nD) (g : Dev nD → EReal) : ∑ d, g d = (g c + g (py c)) + (g (px c) + g (py (px c))) := by
  have h : ∑ d, g d = ∑ i : Fin 4, g (![c, py c, px c, py (px c)] i) :=
    (Equiv.sum_comp (Equiv.ofBijective (![c, py c, px c, py (px c)] : Fin 4 → Dev nD) (by revert c; decide)) g).symm
  rw [h, Fin.sum_univ_four]; exact add_assoc _ _ _

theorem plus_apply (x y : Vec Ideal S192x768 .bf16) (j : S192x768.Idx) : plus x y j = (x j + y j : EReal) := by
  idx_vars j
  unfold plus
  pointwise

/-- After two rounds the quarter a device keeps is the sum of all four devices' products of it. -/
theorem twoX_apply (c : Dev nD) (j : S192x768.Idx) : (twoX m c j : EReal) = ∑ d, (part m d (kx c) j : EReal) := by
  rw [sum_px_py c fun d => part m d (kx c) j]
  unfold twoX oneX
  rw [plus_apply, plus_apply, plus_apply, ox_px, ox_px, kx_py]
theorem twoY_apply (c : Dev nD) (j : S192x768.Idx) : (twoY m c j : EReal) = ∑ d, (part m d (ky c) j : EReal) := by
  rw [sum_py_px c fun d => part m d (ky c) j]
  unfold twoY oneY
  rw [plus_apply, plus_apply, plus_apply, oy_py, oy_py, ky_px]

/-- So is, at the end, every quarter of every device. -/
theorem endV_apply (c : Dev nD) (q : Fin 4) (j : S192x768.Idx) : (endV m c q j : EReal) = ∑ d, (part m d q j : EReal) := by
  have hq : q = kx c ∨ q = ky c ∨ q = ox c ∨ q = oy c := by revert c q; decide
  rcases hq with rfl | rfl | rfl | rfl
  · rw [endV_kx, twoX_apply]
  · rw [endV_ky, twoY_apply]
  · rw [endV_ox, twoX_apply, ox_eq]
  · rw [endV_oy, twoY_apply, oy_eq]

/-! ## The product of the whole operands -/

variable (A : Vec Ideal ⟨2, ![768, 1536]⟩ .f32) (B : Vec Ideal ⟨2, ![1536, 768]⟩ .f32)

/-- The operands are fetched whole. -/
theorem lhs_eq (c : Dev nD) : lhs m c = m ((c : Thread nD τ).loc main_arg0) := by
  funext j
  refine congrArg (m ((c : Thread nD τ).loc main_arg0)) (funext fun a => Fin.ext ?_)
  exact Pipeline.Window.rect_emb_val_of_index_zero win0_0 (0 : Fin 1) a (by revert a; decide) j
theorem rhs_eq (c : Dev nD) : rhs m c = m ((c : Thread nD τ).loc main_arg1) := by
  funext j
  refine congrArg (m ((c : Thread nD τ).loc main_arg1)) (funext fun a => Fin.ext ?_)
  exact Pipeline.Window.rect_emb_val_of_index_zero win0_1 (0 : Fin 1) a (by revert a; decide) j

/-- Where the devices hold their blocks of `A`, a quarter of a device's block is these entries of `A`; -/
theorem lhsQ_apply (c : Dev nD) (hA : m ((c : Thread nD τ).loc main_arg0) = Layout.block ⟨2, ![768, 384]⟩ ⟨2, ![768, 1536]⟩ 1 4 c A)
    (q : Fin 4) (r : Fin 192) (k : Fin 384) :
    lhsQ m c q (ix2 r k) = A (ix2 ⟨192 * q.val + r.val, by omega⟩ ⟨384 * c.val + k.val, by have : c.val < 4 := c.isLt; omega⟩) := by
  unfold lhsQ
  rw [lhs_eq, hA]
  refine congrArg A (funext fun a => Fin.ext ?_)
  match a with
  | ⟨0, _⟩ =>
    refine (Layout.idx_cols_val _ c _).1.trans ((Rect.emb_apply (rowRectA q) (ix2 r k) 0).trans ?_)
    show 192 * q.val + 1 * r.val = 192 * q.val + r.val
    omega
  | ⟨1, _⟩ =>
    refine (Layout.idx_cols_val _ c _).2.trans ((congrArg (c.val * 384 + ·) (Rect.emb_apply (rowRectA q) (ix2 r k) 1)).trans ?_)
    show c.val * 384 + (0 + 1 * k.val) = 384 * c.val + k.val
    omega

/-- of `B` likewise; -/
theorem rhsW_apply (c : Dev nD) (hB : m ((c : Thread nD τ).loc main_arg1) = Layout.block ⟨2, ![384, 768]⟩ ⟨2, ![1536, 768]⟩ 0 4 c B)
    (k : Fin 384) (n : Fin 768) :
    rhsW m c (ix2 k n) = B (ix2 ⟨384 * c.val + k.val, by have : c.val < 4 := c.isLt; omega⟩ n) := by
  unfold rhsW
  pointwise [k0_pay1]
  rw [rhs_eq, hB]
  refine congrArg B (funext fun a => Fin.ext ?_)
  match a with
  | ⟨0, _⟩ => exact (Layout.idx_rows_val _ c _).1.trans (congrArg (· + k.val) (Nat.mul_comm c.val 384))
  | ⟨1, _⟩ => exact (Layout.idx_rows_val _ c _).2

/-- and the device's product of the quarter is the sum over its 384 positions. -/
theorem part_apply (c : Dev nD) (q : Fin 4) (r : Fin 192) (n : Fin 768) :
    (part m c q (ix2 r n) : EReal) = ∑ k : Fin 384, (lhsQ m c q (ix2 r k) * rhsW m c (ix2 k n) : EReal) := by
  unfold part
  pointwise [k0_pay4]

/-- Four sums over 384 positions are one over 1536. -/
theorem sum_blocks (f : Fin 1536 → EReal) : ∑ d : Fin 4, ∑ k : Fin 384, f ⟨384 * d.val + k.val, by omega⟩ = ∑ k, f k := by
  rw [← Fintype.sum_prod_type', ← Equiv.sum_comp (finProdFinEquiv (m := 4) (n := 384)) f]
  exact Finset.sum_congr rfl fun x _ => congrArg f (Fin.ext (by simp [finProdFinEquiv, add_comm]))

/-- Where the devices hold their blocks of `A` and `B`, every device ends with the product of `A` and `B`. -/
theorem outAt_eq (hA : ∀ c : Dev nD, m ((c : Thread nD τ).loc main_arg0) = Layout.block ⟨2, ![768, 384]⟩ ⟨2, ![768, 1536]⟩ 1 4 c A)
    (hB : ∀ c : Dev nD, m ((c : Thread nD τ).loc main_arg1) = Layout.block ⟨2, ![384, 768]⟩ ⟨2, ![1536, 768]⟩ 0 4 c B) (c : Dev nD) :
    outAt m c = Host.dotGeneral (F := Ideal) (φ₁ := .f32) (φ₂ := .f32) Cert.ReferenceIdeal.dot_S768x1536_S1536x768_S768x768_1_0_0_1_n_n none A B := by
  refine eq_of_reads cc0_stg2_0 rowRect rows_cover fun q => ?_
  refine (outAt_read m c q).trans (funext fun j => ?_)
  obtain ⟨r, n, rfl⟩ : ∃ (r : Fin 192) (n : Fin 768), j = ix2 r n :=
    ⟨j 0, j 1, (ix2_eta j).symm⟩
  have e : (rowRect q).emb (ix2 r n) = ix2 (⟨192 * q.val + r.val, by omega⟩ : Fin 768) n := by
    funext a; refine Fin.ext ?_
    match a with
    | ⟨0, _⟩ => show 192 * q.val + 1 * r.val = 192 * q.val + r.val; omega
    | ⟨1, _⟩ => show 0 + 1 * n.val = n.val; omega
  show _ = Host.dotGeneral (F := Ideal) (φ₁ := .f32) (φ₂ := .f32) Cert.ReferenceIdeal.dot_S768x1536_S1536x768_S768x768_1_0_0_1_n_n none A B
    ((rowRect q).emb (ix2 r n))
  rw [e]
  pointwise [k0_pay11]
  rw [← sum_blocks fun k => (A (ix2 ⟨192 * q.val + r.val, by omega⟩ k) * B (ix2 k n) : EReal)]
  refine (endV_apply m c q (ix2 r n)).trans (Finset.sum_congr rfl fun d _ => (part_apply m d q r n).trans (Finset.sum_congr rfl fun k _ => ?_))
  rw [lhsQ_apply m A d (hA d) q r k, rhsW_apply m B d (hB d) k n]

end Cert.Exchange

end
-- ==== Proof.lean ====
/-
# The proof of the claim

The run of the exchange, at bits and at the extended reals, gives the two frames of the kernel; the product it ends
with gives the equation with the reference.
-/
module

public import proofs.«01_k».proof.Defs
public import proofs.«01_k».proof.Proof.Value
public import proofs.«01_k».proof.Proof.Gen.ReferenceIdeal.Run
public import proofs.«01_k».proof.Proof.Gen.Kernel
public import proofs.«01_k».proof.Proof.Gen.KernelIdeal
public import proofs.«01_k».proof.Proof.Gen.ReferenceIdeal
public import Idealize.ShloMosaic.Lib.Quiescent

@[expose] public section

noncomputable section

namespace Cert.Proof

open Idealize.ShloMosaic Idealize.SL.Sem Cert.Exchange

/-- For any floats, every run of the kernel ends without fault, its operands unchanged and every counter at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c 0).trans (finalA_lhs m c), (h.1 c 1).trans (finalA_rhs m c)⟩, h.2⟩)
    (run_main m ρ)

/-- The kernel and the kernel to be read over the extended reals have the same bodies, -/
theorem bodies_eq {F : FTy → Type} [FloatOps F] : Cert.Kernel.defs₀ (F := F) = Cert.KernelIdeal.defs₀ (F := F) := by
  refine congrArg Defs.onTc ?_
  funext l x
  match l, x with
  | ⟨0, _⟩, (t, s) => rfl
/-- so the same table. -/
theorem table_eq {F : FTy → Type} [FloatOps F] : Cert.Kernel.defs (F := F) = Cert.KernelIdeal.defs (F := F) :=
  congrArg (Pipeline.defs Cert.KernelIdeal.pcfgs) bodies_eq

/-- So on bits; -/
theorem frame_kernel : Cert.quiescent_Kernel := fun m ρ _ => by
  have h := frame_any (F := Bits) m ρ
  rw [← table_eq] at h
  exact h
/-- and over the extended reals. -/
theorem frame_ideal : Cert.quiescent_KernelIdeal := fun m ρ _ => frame_any (F := Ideal) m ρ

/-- So does every run of the reference, which has no counters. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- Every device of the kernel ends with the reference's product. -/
theorem same_product : Cert.algebraic_KernelIdeal_ReferenceIdeal := fun m ρ m' ρ' _ hm =>
  ⟨_, (θ_run Cert.KernelIdeal.defs _ _).mono
      (fun _ h c => ⟨((h.1 c 2).trans (finalA_out m c)).trans
          (outAt_eq m _ _ (fun d => (hm d).1) (fun d => (hm d).2) c),
        (h.1 c 0).trans (finalA_lhs m c), (h.1 c 1).trans (finalA_rhs m c)⟩)
      (run_main (F := Ideal) m ρ),
    (θ_run Cert.ReferenceIdeal.defs _ _).mono (fun _ h => h 0) (Cert.ReferenceIdeal.Value.run m' ρ')⟩

theorem claim : Cert.Claim := ⟨Cert.Kernel.Gen.facts, Cert.KernelIdeal.Gen.facts, Cert.ReferenceIdeal.Gen.facts,
  frame_kernel, frame_ideal, frame_reference, trivial, same_product⟩

end Cert.Proof

end
